-- ==== Defs.lean ====
def Pre_Kernel [hPre_depths_in_range : Cert.Pre_depths_in_range.Facts] (m : (ℓ : Loc Cert.Kernel.nD Cert.Kernel.τ Cert.Kernel.sig) → Buf (Elt Bits) ℓ) : Prop :=
  ∀ c : Dev Cert.Kernel.nD,
    (Cert.Pre_depths_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_depths_in_range : Cert.Pre_depths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_depths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_depths_in_range : Cert.Pre_depths_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_depths_in_range : Cert.Pre_depths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "inv13" .f32 0x3D9D89D9#32 ((1 / 13 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_depths_in_range : Cert.Pre_depths_in_range.Facts) (hPre_drawn : Cert.Pre_drawn.Facts),
    quiescent_Kernel (hKernel := hKernel) (hPre_depths_in_range := hPre_depths_in_range)
    ∧ quiescent_KernelIdeal (hKernelIdeal := hKernelIdeal) (hPre_depths_in_range := hPre_depths_in_range)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_depths_in_range.lean ====
abbrev S1024x16x128 : Shape := ⟨3, ![1024, 16, 128]⟩
abbrev S1x16x128 : Shape := ⟨3, ![1, 16, 128]⟩
abbrev S2048x16x128 : Shape := ⟨3, ![2048, 16, 128]⟩
abbrev S13x1x16x8x128 : Shape := ⟨5, ![13, 1, 16, 8, 128]⟩
abbrev S15x128x128 : Shape := ⟨3, ![15, 128, 128]⟩
abbrev S15 : Shape := ⟨1, ![15]⟩
abbrev S1024 : Shape := ⟨1, ![1024]⟩
abbrev S13 : Shape := ⟨1, ![13]⟩
abbrev S_ : Shape := ⟨0, ![]⟩

class Facts : Prop where
  bcast_S_S13 : S_.BroadcastsInDim S13 (![] : Fin 0 → Fin S13.rank)
  reducesTo_S13_S_d0 : S13.ReducesTo [0] S_
  h_S_ : 0 < S_.numel

variable [Facts]

def fn {F : FTy → Type} [FloatOps F] (main_arg0 : FVec F S1024x16x128 .f32) (main_arg1 : FVec F S1x16x128 .f32) (main_arg2 : FVec F S2048x16x128 .f32) (main_arg3 : FVec F S13x1x16x8x128 .f32) (main_arg4 : FVec F S15x128x128 .f32) (main_arg5 : FVec F S15 .f32) (main_arg6 : IVec S1024 32) (main_arg7 : IVec S13 32) : IVec S_ 1 :=
  let main_c : IVec S_ 32 := constantI S_ 32 0#32
  let main_v0 : IVec S13 32 := broadcastInDim S13 ![] bcast_S_S13 main_c
  let main_v1 : IVec S13 1 := cmpi .sge main_arg7 main_v0
  let main_c_0 : IVec S_ 32 := constantI S_ 32 15#32
  let main_v2 : IVec S13 32 := broadcastInDim S13 ![] bcast_S_S13 main_c_0
  let main_v3 : IVec S13 1 := cmpi .slt main_arg7 main_v2
  let main_v4 : IVec S13 1 := andi main_v1 main_v3
  let main_c_1 : IVec S_ 1 := constantI S_ 1 1#1
  let main_v5 : IVec S_ 1 := (fun x v => Host.reduce IntOp.andi x v reducesTo_S13_S_d0 h_S_) main_v4 main_c_1
  main_v5
-- ==== Pre_drawn.lean ====
abbrev S1024x16x128 : Shape := ⟨3, ![1024, 16, 128]⟩
abbrev S1x16x128 : Shape := ⟨3, ![1, 16, 128]⟩
abbrev S2048x16x128 : Shape := ⟨3, ![2048, 16, 128]⟩
abbrev S13x1x16x8x128 : Shape := ⟨5, ![13, 1, 16, 8, 128]⟩
abbrev S15x128x128 : Shape := ⟨3, ![15, 128, 128]⟩
abbrev S15 : Shape := ⟨1, ![15]⟩
abbrev S1024 : Shape := ⟨1, ![1024]⟩
abbrev S13 : Shape := ⟨1, ![13]⟩
abbrev S_ : Shape := ⟨0, ![]⟩

class Facts : Prop where
  bcast_S_S13 : S_.BroadcastsInDim S13 (![] : Fin 0 → Fin S13.rank)
  reducesTo_S13_S_d0 : S13.ReducesTo [0] S_
  h_S_ : 0 < S_.numel
  reducesTo_S1024_S_d0 : S1024.ReducesTo [0] S_
  bcast_S_S1x16x128 : S_.BroadcastsInDim S1x16x128 (![] : Fin 0 → Fin S1x16x128.rank)
  reducesTo_S1x16x128_S_d0_1_2 : S1x16x128.ReducesTo [0, 1, 2] S_
  bcast_S_S1024x16x128 : S_.BroadcastsInDim S1024x16x128 (![] : Fin 0 → Fin S1024x16x128.rank)
  reducesTo_S1024x16x128_S_d0_1_2 : S1024x16x128.ReducesTo [0, 1, 2] S_
  slices_S2048x16x128_S1024x16x128_1024_0_0 : S2048x16x128.Slices ![1024, 0, 0] S1024x16x128

variable [Facts]

def fn_part1 {F : FTy → Type} [FloatOps F] (main_arg2 : FVec F S2048x16x128 .f32) (main_v5 : IVec S_ 1) (main_v8 : IVec S_ 1) (main_v12 : IVec S_ 1) (main_v15 : IVec S1024x16x128 1) (main_c_5 : IVec S_ 1) : IVec S_ 1 :=
  let main_v16 : IVec S_ 1 := (fun x v => Host.reduce IntOp.andi x v reducesTo_S1024x16x128_S_d0_1_2 h_S_) main_v15 main_c_5
  let main_v17 : IVec S_ 1 := andi main_v12 main_v16
  let main_v18 : FVec F S1024x16x128 .f32 := (extractStridedSlice S1024x16x128 ![1024, 0, 0] · slices_S2048x16x128_S1024x16x128_1024_0_0) main_arg2
  let main_v19 : FVec F S1024x16x128 .f32 := Host.absf main_v18
  let main_cst_6 : FVec F S_ .f32 := constant S_ .f32 0x7F800000#32
  let main_v20 : FVec F S1024x16x128 .f32 := broadcastInDim S1024x16x128 ![] bcast_S_S1024x16x128 main_cst_6
  let main_v21 : IVec S1024x16x128 1 := cmpf .olt main_v19 main_v20
  let main_c_7 : IVec S_ 1 := constantI S_ 1 1#1
  let main_v22 : IVec S_ 1 := (fun x v => Host.reduce IntOp.andi x v reducesTo_S1024x16x128_S_d0_1_2 h_S_) main_v21 main_c_7
  let main_v23 : IVec S_ 1 := andi main_v17 main_v22
  let main_v24 : IVec S_ 1 := andi main_v5 main_v8
  let main_v25 : IVec S_ 1 := andi main_v24 main_v23
  main_v25

def fn {F : FTy → Type} [FloatOps F] (main_arg0 : FVec F S1024x16x128 .f32) (main_arg1 : FVec F S1x16x128 .f32) (main_arg2 : FVec F S2048x16x128 .f32) (main_arg3 : FVec F S13x1x16x8x128 .f32) (main_arg4 : FVec F S15x128x128 .f32) (main_arg5 : FVec F S15 .f32) (main_arg6 : IVec S1024 32) (main_arg7 : IVec S13 32) : IVec S_ 1 :=
  let main_c : IVec S_ 32 := constantI S_ 32 0#32
  let main_v0 : IVec S13 32 := broadcastInDim S13 ![] bcast_S_S13 main_c
  let main_v1 : IVec S13 1 := cmpi .sge main_arg7 main_v0
  let main_c_0 : IVec S_ 32 := constantI S_ 32 15#32
  let main_v2 : IVec S13 32 := broadcastInDim S13 ![] bcast_S_S13 main_c_0
  let main_v3 : IVec S13 1 := cmpi .slt main_arg7 main_v2
  let main_v4 : IVec S13 1 := andi main_v1 main_v3
  let main_c_1 : IVec S_ 1 := constantI S_ 1 1#1
  let main_v5 : IVec S_ 1 := (fun x v => Host.reduce IntOp.andi x v reducesTo_S13_S_d0 h_S_) main_v4 main_c_1
  let main_v6 : IVec S1024 32 := iotaInDim S1024 32 0
  let main_v7 : IVec S1024 1 := cmpi .eq main_arg6 main_v6
  let main_c_2 : IVec S_ 1 := constantI S_ 1 1#1
  let main_v8 : IVec S_ 1 := (fun x v => Host.reduce IntOp.andi x v reducesTo_S1024_S_d0 h_S_) main_v7 main_c_2
  let main_v9 : FVec F S1x16x128 .f32 := Host.absf main_arg1
  let main_cst : FVec F S_ .f32 := constant S_ .f32 0x7F800000#32
  let main_v10 : FVec F S1x16x128 .f32 := broadcastInDim S1x16x128 ![] bcast_S_S1x16x128 main_cst
  let main_v11 : IVec S1x16x128 1 := cmpf .olt main_v9 main_v10
  let main_c_3 : IVec S_ 1 := constantI S_ 1 1#1
  let main_v12 : IVec S_ 1 := (fun x v => Host.reduce IntOp.andi x v reducesTo_S1x16x128_S_d0_1_2 h_S_) main_v11 main_c_3
  let main_v13 : FVec F S1024x16x128 .f32 := Host.absf main_arg0
  let main_cst_4 : FVec F S_ .f32 := constant S_ .f32 0x7F800000#32
  let main_v14 : FVec F S1024x16x128 .f32 := broadcastInDim S1024x16x128 ![] bcast_S_S1024x16x128 main_cst_4
  let main_v15 : IVec S1024x16x128 1 := cmpf .olt main_v13 main_v14
  let main_c_5 : IVec S_ 1 := constantI S_ 1 1#1
  fn_part1 (F := F) main_arg2 main_v5 main_v8 main_v12 main_v15 main_c_5
-- ==== Kernel.lean ====
abbrev S1024x16x128 : Shape := ⟨3, ![1024, 16, 128]⟩
abbrev S1x16x128 : Shape := ⟨3, ![1, 16, 128]⟩
abbrev S2048x16x128 : Shape := ⟨3, ![2048, 16, 128]⟩
abbrev S13x1x16x8x128 : Shape := ⟨5, ![13, 1, 16, 8, 128]⟩
abbrev S15x128x128 : Shape := ⟨3, ![15, 128, 128]⟩
abbrev S15 : Shape := ⟨1, ![15]⟩
abbrev S1024 : Shape := ⟨1, ![1024]⟩
abbrev S13 : Shape := ⟨1, ![13]⟩
abbrev S16384x128 : Shape := ⟨2, ![16384, 128]⟩
abbrev S32768x128 : Shape := ⟨2, ![32768, 128]⟩
abbrev S16x128 : Shape := ⟨2, ![16, 128]⟩
abbrev S13x16x8x128 : Shape := ⟨4, ![13, 16, 8, 128]⟩
abbrev S_ : Shape := ⟨0, ![]⟩
abbrev S4096x128 : Shape := ⟨2, ![4096, 128]⟩
abbrev S16x4096 : Shape := ⟨2, ![16, 4096]⟩
abbrev S16x1 : Shape := ⟨2, ![16, 1]⟩
abbrev S16 : Shape := ⟨1, ![16]⟩
abbrev S1 : Shape := ⟨1, ![1]⟩
abbrev S1x128x128 : Shape := ⟨3, ![1, 128, 128]⟩
abbrev S128x128 : Shape := ⟨2, ![128, 128]⟩
abbrev S1x16x8x128 : Shape := ⟨4, ![1, 16, 8, 128]⟩
abbrev S16x8x128 : Shape := ⟨3, ![16, 8, 128]⟩
abbrev S16x1x128 : Shape := ⟨3, ![16, 1, 128]⟩
abbrev S16x8 : Shape := ⟨2, ![16, 8]⟩
abbrev S16x8x1 : Shape := ⟨3, ![16, 8, 1]⟩

abbrev nBuf : Space → Nat
  | .hbm => 37
  | .vmem => 11
  | .smem => 2
  | _ => 0

abbrev bufTy : (tb : Table) → Fin (tcTables nBuf tb) → BufTy
  | .hbm, ⟨0, _⟩ => ⟨S1024x16x128, .f32⟩
  | .hbm, ⟨1, _⟩ => ⟨S1x16x128, .f32⟩
  | .hbm, ⟨2, _⟩ => ⟨S2048x16x128, .f32⟩
  | .hbm, ⟨3, _⟩ => ⟨S13x1x16x8x128, .f32⟩
  | .hbm, ⟨4, _⟩ => ⟨S15x128x128, .f32⟩
  | .hbm, ⟨5, _⟩ => ⟨S15, .f32⟩
  | .hbm, ⟨6, _⟩ => ⟨S1024, .i32⟩
  | .hbm, ⟨7, _⟩ => ⟨S13, .i32⟩
  | .hbm, ⟨8, _⟩ => ⟨S16384x128, .f32⟩
  | .hbm, ⟨9, _⟩ => ⟨S32768x128, .f32⟩
  | .hbm, ⟨10, _⟩ => ⟨S16x128, .f32⟩
  | .hbm, ⟨11, _⟩ => ⟨S13x16x8x128, .f32⟩
  | .hbm, ⟨12, _⟩ => ⟨S_, .f32⟩
  | .hbm, ⟨13, _⟩ => ⟨S15, .f32⟩
  | .hbm, ⟨14, _⟩ => ⟨S15, .f32⟩
  | .hbm, ⟨15, _⟩ => ⟨S15, .f32⟩
  | .hbm, ⟨16, _⟩ => ⟨S15, .f32⟩
  | .hbm, ⟨17, _⟩ => ⟨S15, .i1⟩
  | .hbm, ⟨18, _⟩ => ⟨S15, .f32⟩
  | .hbm, ⟨19, _⟩ => ⟨S15, .f32⟩
  | .hbm, ⟨20, _⟩ => ⟨S15, .f32⟩
  | .hbm, ⟨21, _⟩ => ⟨S15, .f32⟩
  | .hbm, ⟨22, _⟩ => ⟨S15, .f32⟩
  | .hbm, ⟨23, _⟩ => ⟨S15, .f32⟩
  | .hbm, ⟨24, _⟩ => ⟨S15, .f32⟩
  | .hbm, ⟨25, _⟩ => ⟨S15, .f32⟩
  | .hbm, ⟨26, _⟩ => ⟨S_, .f32⟩
  | .hbm, ⟨27, _⟩ => ⟨S15, .f32⟩
  | .hbm, ⟨28, _⟩ => ⟨S15, .f32⟩
  | .hbm, ⟨29, _⟩ => ⟨S_, .f32⟩
  | .hbm, ⟨30, _⟩ => ⟨S15, .f32⟩
  | .hbm, ⟨31, _⟩ => ⟨S15, .f32⟩
  | .hbm, ⟨32, _⟩ => ⟨S_, .f32⟩
  | .hbm, ⟨33, _⟩ => ⟨S15, .f32⟩
  | .hbm, ⟨34, _⟩ => ⟨S15, .f32⟩
  | .hbm, ⟨35, _⟩ => ⟨S16x128, .f32⟩
  | .hbm, ⟨36, _⟩ => ⟨S1x16x128, .f32⟩
  | .local _ .vmem, ⟨0, _⟩ => ⟨S16x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S13x16x8x128, .f32⟩
  | .local _ .vmem, ⟨6, _⟩ => ⟨S15x128x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S16x128, .f32⟩
  | .local _ .smem, ⟨0, _⟩ => ⟨S15, .f32⟩
  | .local _ .smem, ⟨1, _⟩ => ⟨S13, .i32⟩
  | _, _ => ⟨S1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v4 : Ref sig .tc := ⟨.hbm, 25, rfl⟩
abbrev main_cst : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v103 : BitVec 1 := Scalar.cmpi .eq arg0 c3_i32
  let v104 : BitVec 32 := Scalar.extui v103
  let c0_i32_45 : BitVec 32 := 0#32
  let v105 : BitVec 1 := Scalar.cmpi .ne v104 c0_i32_45
  v105

def k0_off1 (v111 : BitVec 32) : Fin 3 → Nat :=
  let v112 : Index := Scalar.indexCast v111
  let c0_52 : Index := 0#32
  let c0_53 : Index := 0#32
  ![v112.toNat, 0, 0]

def k0_off2 (v111 : BitVec 32) : Fin 1 → Nat :=
  let v117 : Index := Scalar.indexCast v111
  ![v117.toNat]

def k0_chk1 (i : grid0.Coords) (v111 : BitVec 32) : Prop :=
  (∀ (k0_h2 : k0_cond2 i = 1#1), ∀ a, (k0_off1 v111) a + S1x128x128.size a ≤ S15x128x128.size a) ∧
  (∀ (k0_h2 : k0_cond2 i = 1#1), ∀ a, (k0_off2 v111) a + S1.size a ≤ S15.size a)
theorem k0_off1_inb : ∀ (i : grid0.Coords) (v111 : BitVec 32) (k0_hw1 : k0_chk1 i v111), ∀ (k0_h2 : k0_cond2 i = 1#1), ∀ a, (k0_off1 v111) a + S1x128x128.size a ≤ S15x128x128.size a := fun i v111 k0_hw1 k0_h2 => k0_hw1.1 k0_h2
theorem k0_off2_inb : ∀ (i : grid0.Coords) (v111 : BitVec 32) (k0_hw1 : k0_chk1 i v111), ∀ (k0_h2 : k0_cond2 i = 1#1), ∀ a, (k0_off2 v111) a + S1.size a ≤ S15.size a := fun i v111 k0_hw1 k0_h2 => k0_hw1.2 k0_h2

def k0_off3 (v141 : BitVec 32) : Fin 3 → Nat :=
  let v142 : Index := Scalar.indexCast v141
  let c0_63 : Index := 0#32
  let c0_64 : Index := 0#32
  ![v142.toNat, 0, 0]

def k0_off4 (v141 : BitVec 32) : Fin 1 → Nat :=
  let v147 : Index := Scalar.indexCast v141
  ![v147.toNat]

def k0_chk2 (i : grid0.Coords) (v141 : BitVec 32) : Prop :=
  (∀ (k0_h2 : k0_cond2 i = 1#1), ∀ a, (k0_off3 v141) a + S1x128x128.size a ≤ S15x128x128.size a) ∧
  (∀ (k0_h2 : k0_cond2 i = 1#1), ∀ a, (k0_off4 v141) a + S1.size a ≤ S15.size a)
theorem k0_off3_inb : ∀ (i : grid0.Coords) (v141 : BitVec 32) (k0_hw2 : k0_chk2 i v141), ∀ (k0_h2 : k0_cond2 i = 1#1), ∀ a, (k0_off3 v141) a + S1x128x128.size a ≤ S15x128x128.size a := fun i v141 k0_hw2 k0_h2 => k0_hw2.1 k0_h2
theorem k0_off4_inb : ∀ (i : grid0.Coords) (v141 : BitVec 32) (k0_hw2 : k0_chk2 i v141), ∀ (k0_h2 : k0_cond2 i = 1#1), ∀ a, (k0_off4 v141) a + S1.size a ≤ S15.size a := fun i v141 k0_hw2 k0_h2 => k0_hw2.2 k0_h2

def k0_off5 (v171 : BitVec 32) : Fin 3 → Nat :=
  let v172 : Index := Scalar.indexCast v171
  let c0_74 : Index := 0#32
  let c0_75 : Index := 0#32
  ![v172.toNat, 0, 0]

def k0_off6 (v171 : BitVec 32) : Fin 1 → Nat :=
  let v177 : Index := Scalar.indexCast v171
  ![v177.toNat]

def k0_chk3 (i : grid0.Coords) (v171 : BitVec 32) : Prop :=
  (∀ (k0_h2 : k0_cond2 i = 1#1), ∀ a, (k0_off5 v171) a + S1x128x128.size a ≤ S15x128x128.size a) ∧
  (∀ (k0_h2 : k0_cond2 i = 1#1), ∀ a, (k0_off6 v171) a + S1.size a ≤ S15.size a)
theorem k0_off5_inb : ∀ (i : grid0.Coords) (v171 : BitVec 32) (k0_hw3 : k0_chk3 i v171), ∀ (k0_h2 : k0_cond2 i = 1#1), ∀ a, (k0_off5 v171) a + S1x128x128.size a ≤ S15x128x128.size a := fun i v171 k0_hw3 k0_h2 => k0_hw3.1 k0_h2
theorem k0_off6_inb : ∀ (i : grid0.Coords) (v171 : BitVec 32) (k0_hw3 : k0_chk3 i v171), ∀ (k0_h2 : k0_cond2 i = 1#1), ∀ a, (k0_off6 v171) a + S1.size a ≤ S15.size a := fun i v171 k0_hw3 k0_h2 => k0_hw3.2 k0_h2

def k0_off7 (v201 : BitVec 32) : Fin 3 → Nat :=
  let v202 : Index := Scalar.indexCast v201
  let c0_85 : Index := 0#32
  let c0_86 : Index := 0#32
  ![v202.toNat, 0, 0]

def k0_off8 (v201 : BitVec 32) : Fin 1 → Nat :=
  let v207 : Index := Scalar.indexCast v201
  ![v207.toNat]

def k0_chk4 (i : grid0.Coords) (v201 : BitVec 32) : Prop :=
  (∀ (k0_h2 : k0_cond2 i = 1#1), ∀ a, (k0_off7 v201) a + S1x128x128.size a ≤ S15x128x128.size a) ∧
  (∀ (k0_h2 : k0_cond2 i = 1#1), ∀ a, (k0_off8 v201) a + S1.size a ≤ S15.size a)
theorem k0_off7_inb : ∀ (i : grid0.Coords) (v201 : BitVec 32) (k0_hw4 : k0_chk4 i v201), ∀ (k0_h2 : k0_cond2 i = 1#1), ∀ a, (k0_off7 v201) a + S1x128x128.size a ≤ S15x128x128.size a := fun i v201 k0_hw4 k0_h2 => k0_hw4.1 k0_h2
theorem k0_off8_inb : ∀ (i : grid0.Coords) (v201 : BitVec 32) (k0_hw4 : k0_chk4 i v201), ∀ (k0_h2 : k0_cond2 i = 1#1), ∀ a, (k0_off8 v201) a + S1.size a ≤ S15.size a := fun i v201 k0_hw4 k0_h2 => k0_hw4.2 k0_h2

def k0_off9 (v231 : BitVec 32) : Fin 3 → Nat :=
  let v232 : Index := Scalar.indexCast v231
  let c0_96 : Index := 0#32
  let c0_97 : Index := 0#32
  ![v232.toNat, 0, 0]

def k0_off10 (v231 : BitVec 32) : Fin 1 → Nat :=
  let v237 : Index := Scalar.indexCast v231
  ![v237.toNat]

def k0_chk5 (i : grid0.Coords) (v231 : BitVec 32) : Prop :=
  (∀ (k0_h2 : k0_cond2 i = 1#1), ∀ a, (k0_off9 v231) a + S1x128x128.size a ≤ S15x128x128.size a) ∧
  (∀ (k0_h2 : k0_cond2 i = 1#1), ∀ a, (k0_off10 v231) a + S1.size a ≤ S15.size a)
theorem k0_off9_inb : ∀ (i : grid0.Coords) (v231 : BitVec 32) (k0_hw5 : k0_chk5 i v231), ∀ (k0_h2 : k0_cond2 i = 1#1), ∀ a, (k0_off9 v231) a + S1x128x128.size a ≤ S15x128x128.size a := fun i v231 k0_hw5 k0_h2 => k0_hw5.1 k0_h2
theorem k0_off10_inb : ∀ (i : grid0.Coords) (v231 : BitVec 32) (k0_hw5 : k0_chk5 i v231), ∀ (k0_h2 : k0_cond2 i = 1#1), ∀ a, (k0_off10 v231) a + S1.size a ≤ S15.size a := fun i v231 k0_hw5 k0_h2 => k0_hw5.2 k0_h2

def k0_off11 (v261 : BitVec 32) : Fin 3 → Nat :=
  let v262 : Index := Scalar.indexCast v261
  let c0_107 : Index := 0#32
  let c0_108 : Index := 0#32
  ![v262.toNat, 0, 0]

def k0_off12 (v261 : BitVec 32) : Fin 1 → Nat :=
  let v267 : Index := Scalar.indexCast v261
  ![v267.toNat]

def k0_chk6 (i : grid0.Coords) (v261 : BitVec 32) : Prop :=
  (∀ (k0_h2 : k0_cond2 i = 1#1), ∀ a, (k0_off11 v261) a + S1x128x128.size a ≤ S15x128x128.size a) ∧
  (∀ (k0_h2 : k0_cond2 i = 1#1), ∀ a, (k0_off12 v261) a + S1.size a ≤ S15.size a)
theorem k0_off11_inb : ∀ (i : grid0.Coords) (v261 : BitVec 32) (k0_hw6 : k0_chk6 i v261), ∀ (k0_h2 : k0_cond2 i = 1#1), ∀ a, (k0_off11 v261) a + S1x128x128.size a ≤ S15x128x128.size a := fun i v261 k0_hw6 k0_h2 => k0_hw6.1 k0_h2
theorem k0_off12_inb : ∀ (i : grid0.Coords) (v261 : BitVec 32) (k0_hw6 : k0_chk6 i v261), ∀ (k0_h2 : k0_cond2 i = 1#1), ∀ a, (k0_off12 v261) a + S1.size a ≤ S15.size a := fun i v261 k0_hw6 k0_h2 => k0_hw6.2 k0_h2

def k0_off13 (v291 : BitVec 32) : Fin 3 → Nat :=
  let v292 : Index := Scalar.indexCast v291
  let c0_118 : Index := 0#32
  let c0_119 : Index := 0#32
  ![v292.toNat, 0, 0]

def k0_off14 (v291 : BitVec 32) : Fin 1 → Nat :=
  let v297 : Index := Scalar.indexCast v291
  ![v297.toNat]

def k0_chk7 (i : grid0.Coords) (v291 : BitVec 32) : Prop :=
  (∀ (k0_h2 : k0_cond2 i = 1#1), ∀ a, (k0_off13 v291) a + S1x128x128.size a ≤ S15x128x128.size a) ∧
  (∀ (k0_h2 : k0_cond2 i = 1#1), ∀ a, (k0_off14 v291) a + S1.size a ≤ S15.size a)
theorem k0_off13_inb : ∀ (i : grid0.Coords) (v291 : BitVec 32) (k0_hw7 : k0_chk7 i v291), ∀ (k0_h2 : k0_cond2 i = 1#1), ∀ a, (k0_off13 v291) a + S1x128x128.size a ≤ S15x128x128.size a := fun i v291 k0_hw7 k0_h2 => k0_hw7.1 k0_h2
theorem k0_off14_inb : ∀ (i : grid0.Coords) (v291 : BitVec 32) (k0_hw7 : k0_chk7 i v291), ∀ (k0_h2 : k0_cond2 i = 1#1), ∀ a, (k0_off14 v291) a + S1.size a ≤ S15.size a := fun i v291 k0_hw7 k0_h2 => k0_hw7.2 k0_h2

def k0_off15 (v321 : BitVec 32) : Fin 3 → Nat :=
  let v322 : Index := Scalar.indexCast v321
  let c0_129 : Index := 0#32
  let c0_130 : Index := 0#32
  ![v322.toNat, 0, 0]

def k0_off16 (v321 : BitVec 32) : Fin 1 → Nat :=
  let v327 : Index := Scalar.indexCast v321
  ![v327.toNat]

def k0_chk8 (i : grid0.Coords) (v321 : BitVec 32) : Prop :=
  (∀ (k0_h2 : k0_cond2 i = 1#1), ∀ a, (k0_off15 v321) a + S1x128x128.size a ≤ S15x128x128.size a) ∧
  (∀ (k0_h2 : k0_cond2 i = 1#1), ∀ a, (k0_off16 v321) a + S1.size a ≤ S15.size a)
theorem k0_off15_inb : ∀ (i : grid0.Coords) (v321 : BitVec 32) (k0_hw8 : k0_chk8 i v321), ∀ (k0_h2 : k0_cond2 i = 1#1), ∀ a, (k0_off15 v321) a + S1x128x128.size a ≤ S15x128x128.size a := fun i v321 k0_hw8 k0_h2 => k0_hw8.1 k0_h2
theorem k0_off16_inb : ∀ (i : grid0.Coords) (v321 : BitVec 32) (k0_hw8 : k0_chk8 i v321), ∀ (k0_h2 : k0_cond2 i = 1#1), ∀ a, (k0_off16 v321) a + S1.size a ≤ S15.size a := fun i v321 k0_hw8 k0_h2 => k0_hw8.2 k0_h2

def k0_off17 (v351 : BitVec 32) : Fin 3 → Nat :=
  let v352 : Index := Scalar.indexCast v351
  let c0_140 : Index := 0#32
  let c0_141 : Index := 0#32
  ![v352.toNat, 0, 0]

def k0_off18 (v351 : BitVec 32) : Fin 1 → Nat :=
  let v357 : Index := Scalar.indexCast v351
  ![v357.toNat]

def k0_chk9 (i : grid0.Coords) (v351 : BitVec 32) : Prop :=
  (∀ (k0_h2 : k0_cond2 i = 1#1), ∀ a, (k0_off17 v351) a + S1x128x128.size a ≤ S15x128x128.size a) ∧
  (∀ (k0_h2 : k0_cond2 i = 1#1), ∀ a, (k0_off18 v351) a + S1.size a ≤ S15.size a)
theorem k0_off17_inb : ∀ (i : grid0.Coords) (v351 : BitVec 32) (k0_hw9 : k0_chk9 i v351), ∀ (k0_h2 : k0_cond2 i = 1#1), ∀ a, (k0_off17 v351) a + S1x128x128.size a ≤ S15x128x128.size a := fun i v351 k0_hw9 k0_h2 => k0_hw9.1 k0_h2
theorem k0_off18_inb : ∀ (i : grid0.Coords) (v351 : BitVec 32) (k0_hw9 : k0_chk9 i v351), ∀ (k0_h2 : k0_cond2 i = 1#1), ∀ a, (k0_off18 v351) a + S1.size a ≤ S15.size a := fun i v351 k0_hw9 k0_h2 => k0_hw9.2 k0_h2

def k0_off19 (v381 : BitVec 32) : Fin 3 → Nat :=
  let v382 : Index := Scalar.indexCast v381
  let c0_151 : Index := 0#32
  let c0_152 : Index := 0#32
  ![v382.toNat, 0, 0]

def k0_off20 (v381 : BitVec 32) : Fin 1 → Nat :=
  let v387 : Index := Scalar.indexCast v381
  ![v387.toNat]

def k0_chk10 (i : grid0.Coords) (v381 : BitVec 32) : Prop :=
  (∀ (k0_h2 : k0_cond2 i = 1#1), ∀ a, (k0_off19 v381) a + S1x128x128.size a ≤ S15x128x128.size a) ∧
  (∀ (k0_h2 : k0_cond2 i = 1#1), ∀ a, (k0_off20 v381) a + S1.size a ≤ S15.size a)
theorem k0_off19_inb : ∀ (i : grid0.Coords) (v381 : BitVec 32) (k0_hw10 : k0_chk10 i v381), ∀ (k0_h2 : k0_cond2 i = 1#1), ∀ a, (k0_off19 v381) a + S1x128x128.size a ≤ S15x128x128.size a := fun i v381 k0_hw10 k0_h2 => k0_hw10.1 k0_h2
theorem k0_off20_inb : ∀ (i : grid0.Coords) (v381 : BitVec 32) (k0_hw10 : k0_chk10 i v381), ∀ (k0_h2 : k0_cond2 i = 1#1), ∀ a, (k0_off20 v381) a + S1.size a ≤ S15.size a := fun i v381 k0_hw10 k0_h2 => k0_hw10.2 k0_h2

def k0_off21 (v411 : BitVec 32) : Fin 3 → Nat :=
  let v412 : Index := Scalar.indexCast v411
  let c0_162 : Index := 0#32
  let c0_163 : Index := 0#32
  ![v412.toNat, 0, 0]

def k0_off22 (v411 : BitVec 32) : Fin 1 → Nat :=
  let v417 : Index := Scalar.indexCast v411
  ![v417.toNat]

def k0_chk11 (i : grid0.Coords) (v411 : BitVec 32) : Prop :=
  (∀ (k0_h2 : k0_cond2 i = 1#1), ∀ a, (k0_off21 v411) a + S1x128x128.size a ≤ S15x128x128.size a) ∧
  (∀ (k0_h2 : k0_cond2 i = 1#1), ∀ a, (k0_off22 v411) a + S1.size a ≤ S15.size a)
theorem k0_off21_inb : ∀ (i : grid0.Coords) (v411 : BitVec 32) (k0_hw11 : k0_chk11 i v411), ∀ (k0_h2 : k0_cond2 i = 1#1), ∀ a, (k0_off21 v411) a + S1x128x128.size a ≤ S15x128x128.size a := fun i v411 k0_hw11 k0_h2 => k0_hw11.1 k0_h2
theorem k0_off22_inb : ∀ (i : grid0.Coords) (v411 : BitVec 32) (k0_hw11 : k0_chk11 i v411), ∀ (k0_h2 : k0_cond2 i = 1#1), ∀ a, (k0_off22 v411) a + S1.size a ≤ S15.size a := fun i v411 k0_hw11 k0_h2 => k0_hw11.2 k0_h2

def k0_off23 (v441 : BitVec 32) : Fin 3 → Nat :=
  let v442 : Index := Scalar.indexCast v441
  let c0_173 : Index := 0#32
  let c0_174 : Index := 0#32
  ![v442.toNat, 0, 0]

def k0_off24 (v441 : BitVec 32) : Fin 1 → Nat :=
  let v447 : Index := Scalar.indexCast v441
  ![v447.toNat]

def k0_chk12 (i : grid0.Coords) (v441 : BitVec 32) : Prop :=
  (∀ (k0_h2 : k0_cond2 i = 1#1), ∀ a, (k0_off23 v441) a + S1x128x128.size a ≤ S15x128x128.size a) ∧
  (∀ (k0_h2 : k0_cond2 i = 1#1), ∀ a, (k0_off24 v441) a + S1.size a ≤ S15.size a)
theorem k0_off23_inb : ∀ (i : grid0.Coords) (v441 : BitVec 32) (k0_hw12 : k0_chk12 i v441), ∀ (k0_h2 : k0_cond2 i = 1#1), ∀ a, (k0_off23 v441) a + S1x128x128.size a ≤ S15x128x128.size a := fun i v441 k0_hw12 k0_h2 => k0_hw12.1 k0_h2
theorem k0_off24_inb : ∀ (i : grid0.Coords) (v441 : BitVec 32) (k0_hw12 : k0_chk12 i v441), ∀ (k0_h2 : k0_cond2 i = 1#1), ∀ a, (k0_off24 v441) a + S1.size a ≤ S15.size a := fun i v441 k0_hw12 k0_h2 => k0_hw12.2 k0_h2

def k0_off25 (v471 : BitVec 32) : Fin 3 → Nat :=
  let v472 : Index := Scalar.indexCast v471
  let c0_184 : Index := 0#32
  let c0_185 : Index := 0#32
  ![v472.toNat, 0, 0]

def k0_off26 (v471 : BitVec 32) : Fin 1 → Nat :=
  let v477 : Index := Scalar.indexCast v471
  ![v477.toNat]

def k0_chk13 (i : grid0.Coords) (v471 : BitVec 32) : Prop :=
  (∀ (k0_h2 : k0_cond2 i = 1#1), ∀ a, (k0_off25 v471) a + S1x128x128.size a ≤ S15x128x128.size a) ∧
  (∀ (k0_h2 : k0_cond2 i = 1#1), ∀ a, (k0_off26 v471) a + S1.size a ≤ S15.size a)
theorem k0_off25_inb : ∀ (i : grid0.Coords) (v471 : BitVec 32) (k0_hw13 : k0_chk13 i v471), ∀ (k0_h2 : k0_cond2 i = 1#1), ∀ a, (k0_off25 v471) a + S1x128x128.size a ≤ S15x128x128.size a := fun i v471 k0_hw13 k0_h2 => k0_hw13.1 k0_h2
theorem k0_off26_inb : ∀ (i : grid0.Coords) (v471 : BitVec 32) (k0_hw13 : k0_chk13 i v471), ∀ (k0_h2 : k0_cond2 i = 1#1), ∀ a, (k0_off26 v471) a + S1.size a ≤ S15.size a := fun i v471 k0_hw13 k0_h2 => k0_hw13.2 k0_h2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S13x16x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S15x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S15 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S13 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv13" => some ((1 / 13 : ℝ) : EReal)
  | "mask" => some ⊥
  | _ => none
-- ==== ReferenceIdeal.lean ====
abbrev S1024x16x128 : Shape := ⟨3, ![1024, 16, 128]⟩
abbrev S1x16x128 : Shape := ⟨3, ![1, 16, 128]⟩
abbrev S2048x16x128 : Shape := ⟨3, ![2048, 16, 128]⟩
abbrev S13x1x16x8x128 : Shape := ⟨5, ![13, 1, 16, 8, 128]⟩
abbrev S15x128x128 : Shape := ⟨3, ![15, 128, 128]⟩
abbrev S15 : Shape := ⟨1, ![15]⟩
abbrev S1024 : Shape := ⟨1, ![1024]⟩
abbrev S13 : Shape := ⟨1, ![13]⟩
abbrev S_ : Shape := ⟨0, ![]⟩
abbrev S1024x1 : Shape := ⟨2, ![1024, 1]⟩
abbrev S16x128 : Shape := ⟨2, ![16, 128]⟩
abbrev S16x2048 : Shape := ⟨2, ![16, 2048]⟩
abbrev S16 : Shape := ⟨1, ![16]⟩
abbrev S16x1 : Shape := ⟨2, ![16, 1]⟩
abbrev S13x1 : Shape := ⟨2, ![13, 1]⟩
abbrev S1 : Shape := ⟨1, ![1]⟩
abbrev S1x1 : Shape := ⟨2, ![1, 1]⟩
abbrev S13x128x128 : Shape := ⟨3, ![13, 128, 128]⟩
abbrev S13x128x16 : Shape := ⟨3, ![13, 128, 16]⟩
abbrev S13x16x128 : Shape := ⟨3, ![13, 16, 128]⟩
abbrev S13x16x8x128 : Shape := ⟨4, ![13, 16, 8, 128]⟩
abbrev S13x16x8 : Shape := ⟨3, ![13, 16, 8]⟩
abbrev S13x1x1 : Shape := ⟨3, ![13, 1, 1]⟩
abbrev S13x16 : Shape := ⟨2, ![13, 16]⟩
abbrev S13x16x1 : Shape := ⟨3, ![13, 16, 1]⟩

abbrev nBuf : Space → Nat
  | .hbm => 140
  | .vmem => 0
  | .smem => 0
  | _ => 0

abbrev hbmTy0_0 (i : Nat) : BufTy := match i % 128 with
  | 0 => ⟨S1024x16x128, .f32⟩
  | 1 => ⟨S1x16x128, .f32⟩
  | 2 => ⟨S2048x16x128, .f32⟩
  | 3 => ⟨S13x1x16x8x128, .f32⟩
  | 4 => ⟨S15x128x128, .f32⟩
  | 5 => ⟨S15, .f32⟩
  | 6 => ⟨S1024, .i32⟩
  | 7 => ⟨S13, .i32⟩
  | 8 => ⟨S_, .i32⟩
  | 9 => ⟨S1024, .i32⟩
  | 10 => ⟨S1024, .i1⟩
  | 11 => ⟨S_, .i32⟩
  | 12 => ⟨S1024, .i32⟩
  | 13 => ⟨S1024, .i32⟩
  | 14 => ⟨S1024, .i32⟩
  | 15 => ⟨S1024x1, .i32⟩
  | 16 => ⟨S2048x16x128, .f32⟩
  | 17 => ⟨S16x128, .f32⟩
  | 18 => ⟨S16x2048, .f32⟩
  | 19 => ⟨S_, .f32⟩
  | 20 => ⟨S16x2048, .f32⟩
  | 21 => ⟨S16x2048, .f32⟩
  | 22 => ⟨S_, .f32⟩
  | 23 => ⟨S16, .f32⟩
  | 24 => ⟨S_, .f32⟩
  | 25 => ⟨S16, .f32⟩
  | 26 => ⟨S16, .f32⟩
  | 27 => ⟨S16x1, .f32⟩
  | 28 => ⟨S16x2048, .f32⟩
  | 29 => ⟨S16x2048, .f32⟩
  | 30 => ⟨S16x2048, .f32⟩
  | 31 => ⟨S_, .f32⟩
  | 32 => ⟨S16, .f32⟩
  | 33 => ⟨S16x1, .f32⟩
  | 34 => ⟨S16x2048, .f32⟩
  | 35 => ⟨S16x2048, .f32⟩
  | 36 => ⟨S16x128, .f32⟩
  | 37 => ⟨S1x16x128, .f32⟩
  | 38 => ⟨S_, .i32⟩
  | 39 => ⟨S13, .i32⟩
  | 40 => ⟨S13, .i1⟩
  | 41 => ⟨S_, .i32⟩
  | 42 => ⟨S13, .i32⟩
  | 43 => ⟨S13, .i32⟩
  | 44 => ⟨S13, .i32⟩
  | 45 => ⟨S13x1, .i32⟩
  | 46 => ⟨S1, .i32⟩
  | 47 => ⟨S_, .i32⟩
  | 48 => ⟨S13x1, .i32⟩
  | 49 => ⟨S13x1, .i1⟩
  | 50 => ⟨S1x1, .i32⟩
  | 51 => ⟨S13x1, .i32⟩
  | 52 => ⟨S13x1, .i1⟩
  | 53 => ⟨S13x1, .i1⟩
  | 54 => ⟨S_, .i1⟩
  | 55 => ⟨S13, .i1⟩
  | 56 => ⟨S13x128x128, .f32⟩
  | 57 => ⟨S13x128x128, .i1⟩
  | 58 => ⟨S_, .f32⟩
  | 59 => ⟨S13x128x128, .f32⟩
  | 60 => ⟨S13x128x128, .f32⟩
  | 61 => ⟨S16x128, .f32⟩
  | 62 => ⟨S13x128x16, .f32⟩
  | 63 => ⟨S13x16x128, .f32⟩
  | 64 => ⟨S16x128, .f32⟩
  | 65 => ⟨S1x16x128, .f32⟩
  | 66 => ⟨S13x16x128, .f32⟩
  | 67 => ⟨S13x16x128, .f32⟩
  | 68 => ⟨S_, .i32⟩
  | 69 => ⟨S13, .i32⟩
  | 70 => ⟨S13, .i1⟩
  | 71 => ⟨S_, .i32⟩
  | 72 => ⟨S13, .i32⟩
  | 73 => ⟨S13, .i32⟩
  | 74 => ⟨S13, .i32⟩
  | 75 => ⟨S13x1, .i32⟩
  | 76 => ⟨S1, .i32⟩
  | 77 => ⟨S_, .i32⟩
  | 78 => ⟨S13x1, .i32⟩
  | 79 => ⟨S13x1, .i1⟩
  | 80 => ⟨S1x1, .i32⟩
  | 81 => ⟨S13x1, .i32⟩
  | 82 => ⟨S13x1, .i1⟩
  | 83 => ⟨S13x1, .i1⟩
  | 84 => ⟨S_, .i1⟩
  | 85 => ⟨S13, .i1⟩
  | 86 => ⟨S13, .f32⟩
  | 87 => ⟨S_, .f32⟩
  | 88 => ⟨S13, .f32⟩
  | 89 => ⟨S13, .f32⟩
  | 90 => ⟨S_, .f32⟩
  | 91 => ⟨S13, .f32⟩
  | 92 => ⟨S13, .f32⟩
  | 93 => ⟨S13, .f32⟩
  | 94 => ⟨S13, .f32⟩
  | 95 => ⟨S13, .i1⟩
  | 96 => ⟨S13, .f32⟩
  | 97 => ⟨S13, .f32⟩
  | 98 => ⟨S13, .f32⟩
  | 99 => ⟨S13, .f32⟩
  | 100 => ⟨S13, .f32⟩
  | 101 => ⟨S13, .f32⟩
  | 102 => ⟨S13, .f32⟩
  | 103 => ⟨S13, .f32⟩
  | 104 => ⟨S_, .f32⟩
  | 105 => ⟨S13, .f32⟩
  | 106 => ⟨S13, .f32⟩
  | 107 => ⟨S_, .f32⟩
  | 108 => ⟨S13, .f32⟩
  | 109 => ⟨S13, .f32⟩
  | 110 => ⟨S_, .f32⟩
  | 111 => ⟨S13, .f32⟩
  | 112 => ⟨S13, .f32⟩
  | 113 => ⟨S13x16x8x128, .f32⟩
  | 114 => ⟨S13x16x8, .f32⟩
  | 115 => ⟨S13x1x1, .f32⟩
  | 116 => ⟨S13x16x8, .f32⟩
  | 117 => ⟨S13x16x8, .f32⟩
  | 118 => ⟨S_, .f32⟩
  | 119 => ⟨S13x16, .f32⟩
  | 120 => ⟨S_, .f32⟩
  | 121 => ⟨S13x16, .f32⟩
  | 122 => ⟨S13x16, .f32⟩
  | 123 => ⟨S13x16x1, .f32⟩
  | 124 => ⟨S13x16x8, .f32⟩
  | 125 => ⟨S13x16x8, .f32⟩
  | 126 => ⟨S13x16x8, .f32⟩
  | 127 => ⟨S_, .f32⟩
  | _ => ⟨S1024x16x128, .f32⟩

abbrev hbmTy0_1 (i : Nat) : BufTy := match i % 128 with
  | 0 => ⟨S13x16, .f32⟩
  | 1 => ⟨S13x16x1, .f32⟩
  | 2 => ⟨S13x16x8, .f32⟩
  | 3 => ⟨S13x16x8, .f32⟩
  | 4 => ⟨S13x16x128, .f32⟩
  | 5 => ⟨S_, .f32⟩
  | 6 => ⟨S16x128, .f32⟩
  | 7 => ⟨S_, .f32⟩
  | 8 => ⟨S16x128, .f32⟩
  | 9 => ⟨S16x128, .f32⟩
  | 10 => ⟨S1x16x128, .f32⟩
  | 11 => ⟨S1x16x128, .f32⟩
  | _ => ⟨S1024x16x128, .f32⟩

abbrev hbmTy (i : Nat) : BufTy := match i / 128 with
  | 0 => hbmTy0_0 i
  | 1 => hbmTy0_1 i
  | _ => ⟨S1024x16x128, .f32⟩

abbrev bufTy : (tb : Table) → Fin (tcTables nBuf tb) → BufTy
  | .hbm, ⟨i, _⟩ => hbmTy i
  | _, _ => ⟨S1024x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_cst : Ref sig .tc := ⟨.hbm, 58, rfl⟩
abbrev main_call0_v15 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_c_1 : Ref sig .tc := ⟨.hbm, 76, rfl⟩
abbrev main_call1_c_2 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_3 : Ref sig .tc := ⟨.hbm, 84, rfl⟩
abbrev main_call1_v12 : Ref sig .tc := ⟨.hbm, 85, rfl⟩
abbrev main_call1_v13 : Ref sig .tc := ⟨.hbm, 86, rfl⟩
abbrev main_call1_cst : Ref sig .tc := ⟨.hbm, 87, rfl⟩
abbrev main_call1_v14 : Ref sig .tc := ⟨.hbm, 88, rfl⟩
abbrev main_v32 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_v33 : Ref sig .tc := ⟨.hbm, 103, rfl⟩
abbrev main_cst_4 : Ref sig .tc := ⟨.hbm, 104, rfl⟩
abbrev main_v34 : Ref sig .tc := ⟨.hbm, 105, rfl⟩
abbrev main_v35 : Ref sig .tc := ⟨.hbm, 106, rfl⟩
abbrev main_cst_5 : Ref sig .tc := ⟨.hbm, 107, rfl⟩
abbrev main_v36 : Ref sig .tc := ⟨.hbm, 108, rfl⟩
abbrev main_v37 : Ref sig .tc := ⟨.hbm, 109, rfl⟩
abbrev main_cst_6 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_cst_7 : Ref sig .tc := ⟨.hbm, 118, rfl⟩
abbrev main_v45 : Ref sig .tc := ⟨.hbm, 119, rfl⟩
abbrev main_cst_8 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_cst_9 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_cst_10 : Ref sig .tc := ⟨.hbm, 133, rfl⟩
abbrev main_v57 : Ref sig .tc := ⟨.hbm, 134, rfl⟩
abbrev main_cst_11 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩

abbrev nD : Nat := 1
abbrev τ : Topo := Topo.v7x

variable {F : FTy → Type} [FloatOps F]
-- ==== Proof.Words.lean ====
/- The depth words of the idealized kernel: the precondition bounds each word of the depth table below 15, and a word
   below 15 names one of the fifteen depth projections, which is what the kernel's side conditions ask. -/
module

public import proofs.«01_k».proof.Proof.Gen.KernelIdeal.Frame.Runs

@[expose] public section

namespace Cert.Words

open Cert.KernelIdeal Cert.KernelIdeal.Gen
open Idealize.ShloMosaic Idealize.ShloMosaic.TcCoe

variable {F : FTy → Type} [FloatOps F] [Named F]

/-- A word below 15 keeps a window of one projection inside the fifteen. -/
theorem fits3 (w : BitVec 32) (h : w.toNat < 15) (a : Fin 3) :
    (![w.toNat, 0, 0] : Fin 3 → Nat) a + S1x128x128.size a ≤ S15x128x128.size a := by
  fin_cases a
  · show w.toNat + 1 ≤ 15; omega
  · show 0 + 128 ≤ 128; omega
  · show 0 + 128 ≤ 128; omega

/-- A word below 15 names one of the fifteen scales. -/
theorem fits1 (w : BitVec 32) (h : w.toNat < 15) (a : Fin 1) :
    (![w.toNat] : Fin 1 → Nat) a + S1.size a ≤ S15.size a := by
  fin_cases a
  show w.toNat + 1 ≤ 15; omega

/-- A depth table whose every word is below 15 meets the kernel's side conditions at every grid point. -/
theorem hyps_of_bound (m : (ℓ : Loc nD τ sig) → Buf (Elt F) ℓ)
    (hb : ∀ (c : Dev nD) (y : S13.Idx), (m ((c : Thread nD τ).loc main_arg7) y : BitVec 32).toNat < 15) : Hyps m := by
  have rd : ∀ (c : Dev nD) (t : Fin cfg0.N) i, (iblk m c 6 t i : BitVec 32).toNat < 15 := fun c t i => by
    unfold iblk; rw [View.read_apply, cast_eq]
    have e := V_main_arg7 m c
    exact (congrArg (fun w : BitVec 32 => w.toNat < 15) (congrFun e _)).mpr (hb c _)
  refine Hyps.of ?_ ?_ ?_ ?_ ?_ ?_ ?_ ?_ ?_ ?_ ?_ ?_ ?_ <;>
    (intro c t _
     simp only [View.readAt_apply, Memref.IsWhole.read_unread]
     exact ⟨fun _ => fits3 _ (rd c t _), fun _ => fits1 _ (rd c t _)⟩)

end Cert.Words
-- ==== Proof.WordsBits.lean ====
/- The depth words of the kernel: the precondition bounds each word of the depth table below 15, and a word
   below 15 names one of the fifteen depth projections, which is what the kernel's side conditions ask. -/
module

public import proofs.«01_k».proof.Proof.Gen.Kernel.Frame.Runs

@[expose] public section

namespace Cert.WordsBits

open Cert.Kernel Cert.Kernel.Gen
open Idealize.ShloMosaic Idealize.ShloMosaic.TcCoe

variable {F : FTy → Type} [FloatOps F]

/-- A word below 15 keeps a window of one projection inside the fifteen. -/
theorem fits3 (w : BitVec 32) (h : w.toNat < 15) (a : Fin 3) :
    (![w.toNat, 0, 0] : Fin 3 → Nat) a + S1x128x128.size a ≤ S15x128x128.size a := by
  fin_cases a
  · show w.toNat + 1 ≤ 15; omega
  · show 0 + 128 ≤ 128; omega
  · show 0 + 128 ≤ 128; omega

/-- A word below 15 names one of the fifteen scales. -/
theorem fits1 (w : BitVec 32) (h : w.toNat < 15) (a : Fin 1) :
    (![w.toNat] : Fin 1 → Nat) a + S1.size a ≤ S15.size a := by
  fin_cases a
  show w.toNat + 1 ≤ 15; omega

/-- A depth table whose every word is below 15 meets the kernel's side conditions at every grid point. -/
theorem hyps_of_bound (m : (ℓ : Loc nD τ sig) → Buf (Elt F) ℓ)
    (hb : ∀ (c : Dev nD) (y : S13.Idx), (m ((c : Thread nD τ).loc main_arg7) y : BitVec 32).toNat < 15) : Hyps m := by
  have rd : ∀ (c : Dev nD) (t : Fin cfg0.N) i, (iblk m c 6 t i : BitVec 32).toNat < 15 := fun c t i => by
    unfold iblk; rw [View.read_apply, cast_eq]
    have e := V_main_arg7 m c
    exact (congrArg (fun w : BitVec 32 => w.toNat < 15) (congrFun e _)).mpr (hb c _)
  refine Hyps.of ?_ ?_ ?_ ?_ ?_ ?_ ?_ ?_ ?_ ?_ ?_ ?_ ?_ <;>
    (intro c t _
     simp only [View.readAt_apply, Memref.IsWhole.read_unread]
     exact ⟨fun _ => fits3 _ (rd c t _), fun _ => fits1 _ (rd c t _)⟩)

end Cert.WordsBits
-- ==== Proof.Drawn.lean ====
/- The two preconditions read back. Each is a conjunction of "all" reductions over comparisons; here each comparison is
   read at an element: a depth word is below 15, the slots are 0, 1, ..., 1023 in order, and the query, the new rows and
   the kept rows of the ring buffer are finite. -/
module

public import proofs.«01_k».proof.Proof.Gen.Pre_depths_in_range
public import proofs.«01_k».proof.Proof.Gen.Pre_drawn
public import Idealize.ShloMosaic.Lib.ReduceAll
public import Idealize.ShloMosaic.Lib.Pointwise

@[expose] public section

namespace Cert.Drawn

open Idealize.ShloMosaic

/-- A conjunction of two truth words is true exactly when both are. -/
theorem andi_one (a b : BitVec 1) : IntOp.andi a b = 1#1 ↔ a = 1#1 ∧ b = 1#1 := by
  revert a b; decide

/-- A truth word made of a decided proposition is true exactly when the proposition is. -/
theorem ofBool_one (p : Bool) : BitVec.ofBool p = 1#1 ↔ p = true := by cases p <;> decide

instance : Subsingleton (⟨0, ![]⟩ : Shape).Idx := ⟨fun a b => funext fun i => i.elim0⟩

/-- A word between 0 and 14 as a signed number is below 15 as an unsigned one. -/
theorem word_lt (w : BitVec 32) (h0 : IntOp.cmpi .sge w 0#32 = 1#1) (h1 : IntOp.cmpi .slt w 15#32 = 1#1) :
    w.toNat < 15 := by
  simp only [IntOp.cmpi, ofBool_one, BitVec.sle, BitVec.slt, decide_eq_true_eq, BitVec.toInt, BitVec.toNat_ofNat] at h0 h1
  omega

section
variable {F : FTy → Type} [FloatOps F]

open Cert.Pre_depths_in_range in
/-- What the first precondition says of a depth word. -/
theorem depth_lt (a0 : FVec F S1024x16x128 .f32) (a1 : FVec F S1x16x128 .f32) (a2 : FVec F S2048x16x128 .f32)
    (a3 : FVec F S13x1x16x8x128 .f32) (a4 : FVec F S15x128x128 .f32) (a5 : FVec F S15 .f32) (a6 : IVec S1024 32)
    (a7 : IVec S13 32) (i : S_.Idx) (h : Cert.Pre_depths_in_range.fn a0 a1 a2 a3 a4 a5 a6 a7 i = 1#1) (y : S13.Idx) :
    (a7 y).toNat < 15 := by
  have e := Host.reduce_andi_all _ _ _ _ _ h y
  obtain ⟨h0, h1⟩ := (andi_one _ _).mp e
  exact word_lt _ h0 h1

end

/-- An extended real whose absolute value lies below +infinity is neither infinity. -/
theorem finite_of_abs (x : Ideal .f32)
    (h : FloatOps.cmpf (F := Ideal) .olt (FloatOps.hostAbsf x) (FloatOps.ofBits (F := Ideal) .f32 0x7F800000#32) = 1#1) :
    (x : EReal) ≠ ⊤ ∧ (x : EReal) ≠ ⊥ := by
  have htop : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [htop, ofBool_one, decide_eq_true_eq, max_lt_iff] at h'
  refine ⟨h'.1.ne, ?_⟩
  intro hb
  have h2 := h'.2
  rw [hb] at h2
  exact absurd h2 (by simp)

open Cert.Pre_drawn in
/-- What the second precondition says at an element: the depth words are below 15, the slots are 0, 1, ..., 1023 in
    order, and the query, the new rows and the kept rows of the ring buffer are finite. -/
theorem parts (a0 : FVec Ideal S1024x16x128 .f32) (a1 : FVec Ideal S1x16x128 .f32) (a2 : FVec Ideal S2048x16x128 .f32)
    (a3 : FVec Ideal S13x1x16x8x128 .f32) (a4 : FVec Ideal S15x128x128 .f32) (a5 : FVec Ideal S15 .f32) (a6 : IVec S1024 32)
    (a7 : IVec S13 32) (i : S_.Idx) (h : Cert.Pre_drawn.fn a0 a1 a2 a3 a4 a5 a6 a7 i = 1#1) :
    (∀ y : S13.Idx, (a7 y).toNat < 15)
    ∧ (∀ y : S1024.Idx, a6 y = BitVec.ofNat 32 (y 0).val)
    ∧ (∀ y : S1x16x128.Idx, (a1 y : EReal) ≠ ⊤ ∧ (a1 y : EReal) ≠ ⊥)
    ∧ (∀ y : S1024x16x128.Idx, (a0 y : EReal) ≠ ⊤ ∧ (a0 y : EReal) ≠ ⊥)
    ∧ (∀ y : S2048x16x128.Idx, 1024 ≤ (y 0).val → (a2 y : EReal) ≠ ⊤ ∧ (a2 y : EReal) ≠ ⊥) := by
  obtain ⟨h01, hf⟩ := (andi_one _ _).mp h
  obtain ⟨hd, hs⟩ := (andi_one _ _).mp h01
  obtain ⟨hqv, hl⟩ := (andi_one _ _).mp hf
  obtain ⟨hq, hv⟩ := (andi_one _ _).mp hqv
  refine ⟨fun y => ?_, fun y => ?_, fun y => ?_, fun y => ?_, fun y hy => ?_⟩
  · obtain ⟨h0, h1⟩ := (andi_one _ _).mp (Host.reduce_andi_all _ _ _ _ _ hd y)
    exact word_lt _ h0 h1
  · have e := Host.reduce_andi_all _ _ _ _ _ hs y
    simp only [cmpi, IntOp.cmpi, ofBool_one] at e
    exact of_decide_eq_true e
  · exact finite_of_abs _ (Host.reduce_andi_all _ _ _ _ _ hq y)
  · exact finite_of_abs _ (Host.reduce_andi_all _ _ _ _ _ hv y)
  · have hlt : (y 0).val < 2048 := (y 0).isLt
    let z : S1024x16x128.Idx := fun a => match a with
      | ⟨0, _⟩ => (⟨(y 0).val - 1024, by omega⟩ : Fin 1024)
      | ⟨1, _⟩ => y 1
      | ⟨2, _⟩ => y 2
    have e := finite_of_abs _ (Host.reduce_andi_all _ _ _ _ _ hl z)
    have hz : extractStridedSlice S1024x16x128 ![1024, 0, 0] a2 Facts.slices_S2048x16x128_S1024x16x128_1024_0_0 z = a2 y := by
      refine congrArg a2 (funext fun a => Fin.ext ?_)
      match a with
      | ⟨0, _⟩ => show 1024 + ((y 0).val - 1024) = (y 0).val; omega
      | ⟨1, _⟩ => show 0 + (y 1).val = (y 1).val; omega
      | ⟨2, _⟩ => show 0 + (y 2).val = (y 2).val; omega
    exact hz ▸ e

end Cert.Drawn
-- ==== Proof.Frames.lean ====
/- The frames of the three programs and the sanctioned constants: each program runs, leaves its arguments unchanged and
   every semaphore at zero. The kernel's frames follow from its generated certificates once the depth words are bounded;
   the reference runs on the host. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Words
public import proofs.«01_k».proof.Proof.WordsBits
public import proofs.«01_k».proof.Proof.Drawn
public import Idealize.ShloMosaic.Init
public import Idealize.ShloMosaic.Lib.Quiescent

@[expose] public section

noncomputable section

namespace Cert.Frames

open Idealize.ShloMosaic Idealize.SL.Sem

/-- The bound on the depth words, from the first precondition. -/
theorem hyps_bits (m : (ℓ : Loc Cert.Kernel.nD Cert.Kernel.τ Cert.Kernel.sig) → Buf (Elt Bits) ℓ)
    (h : Cert.Pre_Kernel m) : Cert.Kernel.Gen.Hyps m :=
  Cert.WordsBits.hyps_of_bound m fun c y => Cert.Drawn.depth_lt _ _ _ _ _ _ _ _ _ (congrFun (h c) (fun a => a.elim0)) y

/-- The same for the idealized kernel. -/
theorem hyps_ideal (m : (ℓ : Loc Cert.KernelIdeal.nD Cert.KernelIdeal.τ Cert.KernelIdeal.sig) → Buf (Elt Ideal) ℓ)
    (h : Cert.Pre_KernelIdeal m) : Cert.KernelIdeal.Gen.Hyps m :=
  Cert.Words.hyps_of_bound m fun c y => Cert.Drawn.depth_lt _ _ _ _ _ _ _ _ _ (congrFun (h c) (fun a => a.elim0)) y

/-- The same from the second precondition. -/
theorem hyps_drawn (m : (ℓ : Loc Cert.KernelIdeal.nD Cert.KernelIdeal.τ Cert.KernelIdeal.sig) → Buf (Elt Ideal) ℓ)
    (h : Cert.Pre_KernelIdeal_drawn m) : Cert.KernelIdeal.Gen.Hyps m :=
  Cert.Words.hyps_of_bound m fun c y => (Cert.Drawn.parts _ _ _ _ _ _ _ _ _ (congrFun (h c) (fun a => a.elim0))).1 y

/-- The kernel's frame. -/
theorem kernel : Cert.quiescent_Kernel (hKernel := Cert.Kernel.Gen.facts) := fun m g h =>
  Cert.Kernel.Gen.frame m g (hyps_bits m h)

/-- The idealized kernel's frame. -/
theorem kernelIdeal : Cert.quiescent_KernelIdeal (hKernelIdeal := Cert.KernelIdeal.Gen.facts) := fun m g h =>
  Cert.KernelIdeal.Gen.frame m g (hyps_ideal m h)

/-- The idealized kernel's frame under the second precondition. -/
theorem kernelIdeal_drawn : Cert.quiescent_KernelIdeal_pre_drawn (hKernelIdeal := Cert.KernelIdeal.Gen.facts) := fun m g h =>
  Cert.KernelIdeal.Gen.frame m g (hyps_drawn m h)

/-- The reference's frame. -/
theorem reference : Cert.quiescent_ReferenceIdeal (hReferenceIdeal := Cert.ReferenceIdeal.Gen.facts) := fun m g _ =>
  (θ_run Cert.ReferenceIdeal.defs _ _).mono (fun r h => ⟨fun c => (h c).2,
      Idealize.ShloMosaic.sem_eq_zero_of_no_sems (by decide) r.2⟩) (Cert.ReferenceIdeal.Value.run (F := Ideal) m g)

/-- The reference's frame under the second precondition. -/
theorem reference_drawn : Cert.quiescent_ReferenceIdeal_pre_drawn (hReferenceIdeal := Cert.ReferenceIdeal.Gen.facts) :=
  fun m g _ => (θ_run Cert.ReferenceIdeal.defs _ _).mono (fun r h => ⟨fun c => (h c).2,
      Idealize.ShloMosaic.sem_eq_zero_of_no_sems (by decide) r.2⟩) (Cert.ReferenceIdeal.Value.run (F := Ideal) m g)

/-- The two named constants: the mask becomes minus infinity, the rounded 1/13 becomes 1/13. -/
theorem preserves : Cert.preserves_Kernel_KernelIdeal :=
  ⟨IdealRules.named_const.statement Cert.KernelIdeal.κ "mask" .f32 0xF149F2CA#32 ⊥ rfl,
   IdealRules.named_const.statement Cert.KernelIdeal.κ "inv13" .f32 0x3D9D89D9#32 ((1 / 13 : ℝ) : EReal) rfl⟩

end Cert.Frames

end
-- ==== Proof.RefIdx.lean ====
module

public import proofs.«01_k».proof.Proof.Gen.ReferenceIdeal.Read
public import Idealize.ShloMosaic.Lib.Pointwise
public import Idealize.ShloMosaic.Lib.Routing.OpsPair
public import Idealize.ShloMosaic.Lib.Routing.OpsSet

/-!
The reference's index operations, read at an index: the overwritten ring buffer, and the two selections by depth word.
-/

@[expose] public section

set_option maxRecDepth 16384
noncomputable section

namespace Cert.RefIdx

open Idealize.ShloMosaic
open Cert.ReferenceIdeal Cert.ReferenceIdeal.Gen Cert.ReferenceIdeal.Read

/-- A word below fifteen is the word of a number below fifteen. -/
theorem word_eq (w : BitVec 32) (hw : w.toNat < 15) : w = BitVec.ofNat 32 (⟨w.toNat, hw⟩ : Fin 15).val := by
  simp

/-- A depth word in range is left as it is by the wrap of negative indices. -/
theorem wrap (w : BitVec 32) (hw : w.toNat < 15) :
    Scalar.select (IntOp.cmpi .slt w 0#32) (IntOp.addi w 15#32) w = w := by
  have h : ∀ n : Fin 15, Scalar.select (IntOp.cmpi .slt (BitVec.ofNat 32 n.val) 0#32)
      (IntOp.addi (BitVec.ofNat 32 n.val) 15#32) (BitVec.ofNat 32 n.val) = BitVec.ofNat 32 n.val := by decide
  rw [word_eq w hw]; exact h _

/-- A depth word in range passes the bounds test. -/
theorem inside (w : BitVec 32) (hw : w.toNat < 15) :
    IntOp.andi (IntOp.cmpi .sge w 0#32) (IntOp.cmpi .sle w 14#32) = 1#1 := by
  have h : ∀ n : Fin 15, IntOp.andi (IntOp.cmpi .sge (BitVec.ofNat 32 n.val) 0#32)
      (IntOp.cmpi .sle (BitVec.ofNat 32 n.val) 14#32) = 1#1 := by decide
  rw [word_eq w hw]; exact h _

/-- A depth word in range, read signed and clamped, is its own number. -/
theorem clamp (w : BitVec 32) (hw : w.toNat < 15) : min w.toInt.toNat 14 = w.toNat % 15 := by
  have h : ∀ n : Fin 15, min (BitVec.ofNat 32 n.val).toInt.toNat 14 = (BitVec.ofNat 32 n.val).toNat % 15 := by decide
  rw [word_eq w hw]; exact h _

variable (x7 : (⟨S13, .i32⟩ : BufTy).Contents (Elt Ideal)) (hx : ∀ j : Fin 13, (x7 (ix1 j)).toNat < 15)
include hx

/-- The index column the matrices are selected by. -/
theorem c0_v5 (j : Fin 13) (z : Fin 1) : val_main_call0_v5 (F := Ideal) x7 (ix2 j z) = x7 (ix1 j) := by
  have e : idx_main_call0_v5 (ix2 j z) = ix1 j := funext fun i => match i with
    | ⟨0, _⟩ => rfl
  rw [val_main_call0_v5_apply, e]
  exact wrap _ (hx j)

/-- The bounds test of that column. -/
theorem c0_v12 (j : Fin 13) : val_main_call0_v12 (F := Ideal) x7 (ix1 j) = 1#1 := by
  have h : ∀ z, val_main_call0_v11 (F := Ideal) x7 (ix2 j z) = 1#1 := fun z => by
    rw [val_main_call0_v11_apply, val_main_call0_v7_apply, val_main_call0_v10_apply, c0_v5 x7 hx]
    exact inside _ (hx j)
  unfold val_main_call0_v12
  generalize val_main_call0_v11 (F := Ideal) x7 = y at h ⊢
  pointwise
  simp only [h, Finset.univ_unique, Finset.fold_singleton]
  rfl

/-- The matrices selected by the depth words. -/
theorem v24 (x4 : (⟨S15x128x128, .f32⟩ : BufTy).Contents (Elt Ideal)) (j : Fin 13) (a b : Fin 128) :
    val_main_v24 (F := Ideal) x4 x7 (ix3 j a b)
      = x4 (ix3 ⟨(x7 (ix1 j)).toNat % 15, Nat.mod_lt _ (by norm_num)⟩ a b) := by
  have h14 : val_main_call0_v14 (F := Ideal) x7 (ix3 j a b) = 1#1 := by
    have e : idx_main_call0_v14 (ix3 j a b) = ix1 j := funext fun i => match i with
      | ⟨0, _⟩ => rfl
    rw [val_main_call0_v14_apply, e]; exact c0_v12 x7 hx j
  rw [val_main_v24_apply, h14]
  show val_main_call0_v13 (F := Ideal) x4 x7 (ix3 j a b) = _
  unfold val_main_call0_v13 Host.gather
  refine congrArg x4 (funext fun i => Fin.ext ?_)
  match i with
  | ⟨0, _⟩ =>
    show min (val_main_call0_v5 (F := Ideal) x7 _).toInt.toNat 14 + 0 + 0 = (x7 (ix1 j)).toNat % 15
    rw [show ∀ y, y = ix2 j 0 → val_main_call0_v5 (F := Ideal) x7 y = x7 (ix1 j) from fun y e => by rw [e, c0_v5 x7 hx]]
    · exact clamp _ (hx j)
    · funext i
      match i with
      | ⟨0, _⟩ => rfl
      | ⟨1, _⟩ => rfl
  | ⟨1, _⟩ => exact Nat.zero_add _
  | ⟨2, _⟩ => exact Nat.zero_add _

/-- The index column the temperatures are selected by. -/
theorem c1_v5 (j : Fin 13) (z : Fin 1) : val_main_call1_v5 (F := Ideal) x7 (ix2 j z) = x7 (ix1 j) := by
  have e : idx_main_call1_v5 (ix2 j z) = ix1 j := funext fun i => match i with
    | ⟨0, _⟩ => rfl
  rw [val_main_call1_v5_apply, e]
  exact wrap _ (hx j)

/-- The bounds test of that column. -/
theorem c1_v12 (j : Fin 13) : val_main_call1_v12 (F := Ideal) x7 (ix1 j) = 1#1 := by
  have h : ∀ z, val_main_call1_v11 (F := Ideal) x7 (ix2 j z) = 1#1 := fun z => by
    rw [val_main_call1_v11_apply, val_main_call1_v7_apply, val_main_call1_v10_apply, c1_v5 x7 hx]
    exact inside _ (hx j)
  unfold val_main_call1_v12
  generalize val_main_call1_v11 (F := Ideal) x7 = y at h ⊢
  pointwise
  simp only [h, Finset.univ_unique, Finset.fold_singleton]
  rfl

/-- The temperatures selected by the depth words. -/
theorem v32 (x5 : (⟨S15, .f32⟩ : BufTy).Contents (Elt Ideal)) (j : Fin 13) :
    val_main_v32 (F := Ideal) x5 x7 (ix1 j) = x5 (ix1 ⟨(x7 (ix1 j)).toNat % 15, Nat.mod_lt _ (by norm_num)⟩) := by
  rw [val_main_v32_apply, c1_v12 x7 hx]
  show val_main_call1_v13 (F := Ideal) x5 x7 (ix1 j) = _
  unfold val_main_call1_v13 Host.gather
  refine congrArg x5 (funext fun i => Fin.ext ?_)
  match i with
  | ⟨0, _⟩ =>
    show min (val_main_call1_v5 (F := Ideal) x7 _).toInt.toNat 14 + 0 + 0 = (x7 (ix1 j)).toNat % 15
    rw [show ∀ y, y = ix2 j 0 → val_main_call1_v5 (F := Ideal) x7 y = x7 (ix1 j) from fun y e => by rw [e, c1_v5 x7 hx]]
    · exact clamp _ (hx j)
    · funext i
      match i with
      | ⟨0, _⟩ => rfl
      | ⟨1, _⟩ => rfl

omit hx
variable (x6 : (⟨S1024, .i32⟩ : BufTy).Contents (Elt Ideal)) (h6 : ∀ y, x6 y = BitVec.ofNat 32 (y 0).val)
include h6

/-- The slot column. -/
theorem v5 (k : Fin 1024) (z : Fin 1) : (val_main_v5 (F := Ideal) x6 (ix2 k z)).toInt = (k.val : Int) := by
  have h : val_main_v5 (F := Ideal) x6 (ix2 k z) = BitVec.ofNat 32 k.val := by
    have e : idx_main_v5 (ix2 k z) = ix1 k := funext fun i => match i with
      | ⟨0, _⟩ => rfl
    rw [val_main_v5_apply, e]
    show Scalar.select (IntOp.cmpi .slt (x6 (ix1 k)) 0#32) (IntOp.addi (x6 (ix1 k)) 2048#32) (x6 (ix1 k)) = _
    rw [h6]
    show Scalar.select (IntOp.cmpi .slt (BitVec.ofNat 32 k.val) 0#32) (IntOp.addi (BitVec.ofNat 32 k.val) 2048#32)
      (BitVec.ofNat 32 k.val) = BitVec.ofNat 32 k.val
    exact (by decide +kernel : ∀ k : Fin 1024, Scalar.select (IntOp.cmpi .slt (BitVec.ofNat 32 k.val) 0#32)
      (IntOp.addi (BitVec.ofNat 32 k.val) 2048#32) (BitVec.ofNat 32 k.val) = BitVec.ofNat 32 k.val) k
  rw [h]
  exact (by decide +kernel : ∀ k : Fin 1024, (BitVec.ofNat 32 k.val).toInt = (k.val : Int)) k

/-- Where an update lands. -/
theorem lands (k : Fin 1024) (h : Fin 16) (d : Fin 128) (k' : Fin 2048) (h' : Fin 16) (d' : Fin 128) :
    scatter_S2048x16x128_S1024x1_S1024x16x128_12_0_0_1.resultIdx? (ix3 k h d) (val_main_v5 (F := Ideal) x6)
      = some (ix3 k' h' d') ↔ k.val = k'.val ∧ h = h' ∧ d = d' := by
  rw [Routing.resultIdx?_eq_some]
  have e0 : scatter_S2048x16x128_S1024x1_S1024x16x128_12_0_0_1.start (ix3 k h d) (val_main_v5 (F := Ideal) x6) 0
      = (k.val : Int) := by
    show (val_main_v5 (F := Ideal) x6 _).toInt = _
    rw [show ∀ y, y = ix2 k 0 → (val_main_v5 (F := Ideal) x6 y).toInt = (k.val : Int) from fun y e => by rw [e, v5 x6 h6]]
    funext i
    match i with
    | ⟨0, _⟩ => rfl
    | ⟨1, _⟩ => rfl
  constructor
  · intro H
    have H0 := H 0
    have H1 : (0 : Int) + (h.val : Int) = (h'.val : Int) := H 1
    have H2 : (0 : Int) + (d.val : Int) = (d'.val : Int) := H 2
    rw [e0] at H0
    have H0' : (k.val : Int) + ((0 : ℕ) : Int) = (k'.val : Int) := H0
    exact ⟨by omega, Fin.ext (by omega), Fin.ext (by omega)⟩
  · rintro ⟨a, rfl, rfl⟩ i
    match i with
    | ⟨0, _⟩ =>
      show scatter_S2048x16x128_S1024x1_S1024x16x128_12_0_0_1.start (ix3 k h d) (val_main_v5 (F := Ideal) x6) 0
        + ((0 : ℕ) : Int) = (k'.val : Int)
      rw [e0]; omega
    | ⟨1, _⟩ => exact Int.zero_add _
    | ⟨2, _⟩ => exact Int.zero_add _

/-- The ring buffer after the insertion: new keys first, kept keys behind them. -/
theorem v6 (x0 : (⟨S1024x16x128, .f32⟩ : BufTy).Contents (Elt Ideal)) (x2 : (⟨S2048x16x128, .f32⟩ : BufTy).Contents (Elt Ideal))
    (k : Fin 2048) (h : Fin 16) (d : Fin 128) :
    val_main_v6 (F := Ideal) x0 x2 x6 (ix3 k h d)
      = if hk : k.val < 1024 then x0 (ix3 ⟨k.val, hk⟩ h d) else x2 (ix3 k h d) := by
  unfold val_main_v6
  split
  · next hk =>
    refine Routing.scatter_set_hit _ _ _ _ _ _ (fun y hy => ?_) (ix3 ⟨k.val, hk⟩ h d) ((lands x6 h6 _ _ _ _ _ _).2 ⟨rfl, rfl, rfl⟩)
    idx_vars y
    obtain ⟨e, rfl, rfl⟩ := (lands x6 h6 _ _ _ _ _ _).1 hy
    exact congrArg x0 (congrArg (fun a : Fin 1024 => ix3 a _ _) (Fin.ext e))
  · next hk =>
    refine Routing.scatter_set_miss _ _ _ _ _ fun y hy => ?_
    idx_vars y
    obtain ⟨e, -, -⟩ := (lands x6 h6 _ _ _ _ _ _).1 hy
    omega

end Cert.RefIdx
end
-- ==== Proof.KVal.lean ====
module

public import proofs.«01_k».proof.Proof.Gen.KernelIdeal.Frame
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384
noncomputable section

namespace Cert.KVal

open Idealize.ShloMosaic Idealize.ShloMosaic.TcCoe Idealize.SL.Sem
open Cert.KernelIdeal Cert.KernelIdeal.Gen
variable {F : FTy → Type} [FloatOps F] [Named F]

/-- Lane 0 of a running scratch, as the one-column array the body loads. -/
def col (x : Vec F S16x128 .f32) : Vec F S16x1 .f32 :=
  View.ld x (Rect.unit ![0, 0] ![16, 1] inb_S16x128_S16x1_0_0)

/-- A load through any rectangle, after a store of the whole buffer, reads what was stored. -/
theorem readCov_whole {S : Shape} {e : EltTy} {κ : Kind} {sp : Space} (v : View sig κ sp S e)
    (off : Fin S.rank → Nat) (h : off = fun _ => 0) (inb : ∀ a, off a + S.size a ≤ S.size a)
    (w : S.Idx → Elt F e) (L : List (View.Piece (Elt F) S e)) (r : Rect S) :
    v.readCov ((⟨Rect.unit off S.size inb, w⟩ : View.Piece (Elt F) S e) :: L) r.toLoadRect = View.ld w r := by
  subst h
  rw [View.readCov_eq_canon_ld _ _ _ (fun y => ⟨_, List.mem_cons_self, by
    show y ∈ (Rect.whole S).set; rw [Rect.set_whole]; exact Finset.mem_univ y⟩), View.canon_cons_unit_zero rfl]

/-- Reading lane 0 back after a store of the whole scratch gives lane 0 of what was stored. -/
theorem readCov_col {κ : Kind} {sp : Space} (v : View sig κ sp S16x128 .f32) (w : Vec F S16x128 .f32)
    (L : List (View.Piece (Elt F) S16x128 .f32)) :
    v.readCov ((⟨Rect.unit ![0, 0] ![16, 128] inb_S16x128_S16x128_0_0, w⟩ : View.Piece (Elt F) S16x128 .f32) :: L)
      (Rect.unit ![0, 0] ![16, 1] inb_S16x128_S16x1_0_0).toLoadRect = col w :=
  readCov_whole (S := S16x128) v ![0, 0] (funext fun a => by fin_cases a <;> rfl) inb_S16x128_S16x128_0_0 w L
    (Rect.unit ![0, 0] ![16, 1] inb_S16x128_S16x1_0_0)

/-- The row number of each entry of the score block. -/
abbrev rows : IVec S16x4096 32 := iota Kind.tc S16x4096 32 [0] iota_S16x4096_d0_w32

/-- Running maximum after the first block of a grid point. -/
def fm (q : Vec F S16x128 .f32) (kv : Vec F S4096x128 .f32) (m : Vec F S16x128 .f32) : Vec F S16x128 .f32 :=
  k0_pay37 (k0_pay33 q kv (col m))
/-- Running normaliser after the first block of a grid point. -/
def fl (q : Vec F S16x128 .f32) (kv : Vec F S4096x128 .f32) (m l : Vec F S16x128 .f32) : Vec F S16x128 .f32 :=
  k0_pay38 (k0_pay34 q kv (col m)) (k0_pay35 q kv (col m)) (col l)
/-- Running weighted sum after the first block of a grid point. -/
def fa (q : Vec F S16x128 .f32) (kv : Vec F S4096x128 .f32) (m a : Vec F S16x128 .f32) : Vec F S16x128 .f32 :=
  k0_pay36 (k0_pay31 kv) (k0_pay34 q kv (col m)) (k0_pay35 q kv (col m)) a
/-- Running maximum after the second block of a grid point. -/
def gm (q : Vec F S16x128 .f32) (kv : Vec F S4096x128 .f32) (m : Vec F S16x128 .f32) : Vec F S16x128 .f32 :=
  k0_pay3 (k0_pay41 rows k0_pay29 (k0_pay30 q) kv (col m))
/-- Running normaliser after the second block of a grid point. -/
def gl (q : Vec F S16x128 .f32) (kv : Vec F S4096x128 .f32) (m l : Vec F S16x128 .f32) : Vec F S16x128 .f32 :=
  k0_pay4 (k0_pay40 rows k0_pay29 (k0_pay30 q) kv) (k0_pay41 rows k0_pay29 (k0_pay30 q) kv (col m))
    (k0_pay42 rows k0_pay29 (k0_pay30 q) kv (col m)) (col l)
/-- Running weighted sum after the second block of a grid point. -/
def ga (q : Vec F S16x128 .f32) (kv : Vec F S4096x128 .f32) (m a : Vec F S16x128 .f32) : Vec F S16x128 .f32 :=
  k0_pay2 (k0_pay39 kv) (k0_pay40 rows k0_pay29 (k0_pay30 q) kv) (k0_pay41 rows k0_pay29 (k0_pay30 q) kv (col m))
    (k0_pay42 rows k0_pay29 (k0_pay30 q) kv (col m)) a

/-- Case A: what scratch 0 holds after the grid point. -/
theorem sout_A_0 (c : Dev nD) (i : grid0.Coords) (arg1 : Memref sig .tc .vmem S16x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x16x8x128 .f32) (harg4 : arg4.IsWhole) (arg5 : Memref sig .tc .vmem S15x128x128 .f32) (harg5 : arg5.IsWhole) (arg6 : Memref sig .tc .smem S15 .f32) (harg6 : arg6.IsWhole) (arg7 : Memref sig .tc .smem S13 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (hc0 : cond0_0 i) (hc1 : ¬cond0_1 i)
    (x0 : Vec F S16x128 .f32) (x1 : Vec F S4096x128 .f32) (x2 : Vec F S4096x128 .f32) (x3 : Vec F S13x16x8x128 .f32) (x4 : Vec F S15x128x128 .f32) (x5 : Vec F S15 .f32) (x6 : Vec F S13 .i32) : sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 = gm x0 x2 (fm x0 x1 k0_pay26) := by
  frame_out
  simp only [readCov_col]
  rfl

/-- Case A: what scratch 1 holds after the grid point. -/
theorem sout_A_1 (c : Dev nD) (i : grid0.Coords) (arg1 : Memref sig .tc .vmem S16x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x16x8x128 .f32) (harg4 : arg4.IsWhole) (arg5 : Memref sig .tc .vmem S15x128x128 .f32) (harg5 : arg5.IsWhole) (arg6 : Memref sig .tc .smem S15 .f32) (harg6 : arg6.IsWhole) (arg7 : Memref sig .tc .smem S13 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (hc0 : cond0_0 i) (hc1 : ¬cond0_1 i)
    (x0 : Vec F S16x128 .f32) (x1 : Vec F S4096x128 .f32) (x2 : Vec F S4096x128 .f32) (x3 : Vec F S13x16x8x128 .f32) (x4 : Vec F S15x128x128 .f32) (x5 : Vec F S15 .f32) (x6 : Vec F S13 .i32) : sout0_A_1 c i arg1 harg1 arg2 harg2 arg3 harg3 arg4 harg4 arg5 harg5 arg6 harg6 arg7 harg7 arg8 harg8 arg9 harg9 arg10 harg10 arg11 harg11 hc0 hc1 x0 x1 x2 x3 x4 x5 x6 = gl x0 x2 (fm x0 x1 k0_pay26) (fl x0 x1 k0_pay26 k0_pay27) := by
  frame_out
  simp only [readCov_col]
  rfl

/-- Case A: what scratch 2 holds after the grid point. -/
theorem sout_A_2 (c : Dev nD) (i : grid0.Coords) (arg1 : Memref sig .tc .vmem S16x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x16x8x128 .f32) (harg4 : arg4.IsWhole) (arg5 : Memref sig .tc .vmem S15x128x128 .f32) (harg5 : arg5.IsWhole) (arg6 : Memref sig .tc .smem S15 .f32) (harg6 : arg6.IsWhole) (arg7 : Memref sig .tc .smem S13 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (hc0 : cond0_0 i) (hc1 : ¬cond0_1 i)
    (x0 : Vec F S16x128 .f32) (x1 : Vec F S4096x128 .f32) (x2 : Vec F S4096x128 .f32) (x3 : Vec F S13x16x8x128 .f32) (x4 : Vec F S15x128x128 .f32) (x5 : Vec F S15 .f32) (x6 : Vec F S13 .i32) : sout0_A_2 c i arg1 harg1 arg2 harg2 arg3 harg3 arg4 harg4 arg5 harg5 arg6 harg6 arg7 harg7 arg8 harg8 arg9 harg9 arg10 harg10 arg11 harg11 hc0 hc1 x0 x1 x2 x3 x4 x5 x6 = ga x0 x2 (fm x0 x1 k0_pay26) (fa x0 x1 k0_pay26 k0_pay28) := by
  frame_out
  simp only [readCov_col]
  rfl

/-- Case B: what scratch 0 holds after the grid point. -/
theorem sout_B_0 (c : Dev nD) (i : grid0.Coords) (arg1 : Memref sig .tc .vmem S16x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x16x8x128 .f32) (harg4 : arg4.IsWhole) (arg5 : Memref sig .tc .vmem S15x128x128 .f32) (harg5 : arg5.IsWhole) (arg6 : Memref sig .tc .smem S15 .f32) (harg6 : arg6.IsWhole) (arg7 : Memref sig .tc .smem S13 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (hc0 : ¬cond0_0 i) (hc1 : ¬cond0_1 i)
    (x0 : Vec F S16x128 .f32) (x1 : Vec F S4096x128 .f32) (x2 : Vec F S4096x128 .f32) (x3 : Vec F S13x16x8x128 .f32) (x4 : Vec F S15x128x128 .f32) (x5 : Vec F S15 .f32) (x6 : Vec F S13 .i32) (xs0 : Vec F S16x128 .f32) (xs1 : Vec F S16x128 .f32) (xs2 : Vec F S16x128 .f32) : sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 = gm x0 x2 (fm x0 x1 xs0) := by
  frame_out
  simp only [readCov_col]
  rfl

/-- Case B: what scratch 1 holds after the grid point. -/
theorem sout_B_1 (c : Dev nD) (i : grid0.Coords) (arg1 : Memref sig .tc .vmem S16x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x16x8x128 .f32) (harg4 : arg4.IsWhole) (arg5 : Memref sig .tc .vmem S15x128x128 .f32) (harg5 : arg5.IsWhole) (arg6 : Memref sig .tc .smem S15 .f32) (harg6 : arg6.IsWhole) (arg7 : Memref sig .tc .smem S13 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (hc0 : ¬cond0_0 i) (hc1 : ¬cond0_1 i)
    (x0 : Vec F S16x128 .f32) (x1 : Vec F S4096x128 .f32) (x2 : Vec F S4096x128 .f32) (x3 : Vec F S13x16x8x128 .f32) (x4 : Vec F S15x128x128 .f32) (x5 : Vec F S15 .f32) (x6 : Vec F S13 .i32) (xs0 : Vec F S16x128 .f32) (xs1 : Vec F S16x128 .f32) (xs2 : Vec F S16x128 .f32) : sout0_B_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 = gl x0 x2 (fm x0 x1 xs0) (fl x0 x1 xs0 xs1) := by
  frame_out
  simp only [readCov_col]
  rfl

/-- Case B: what scratch 2 holds after the grid point. -/
theorem sout_B_2 (c : Dev nD) (i : grid0.Coords) (arg1 : Memref sig .tc .vmem S16x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x16x8x128 .f32) (harg4 : arg4.IsWhole) (arg5 : Memref sig .tc .vmem S15x128x128 .f32) (harg5 : arg5.IsWhole) (arg6 : Memref sig .tc .smem S15 .f32) (harg6 : arg6.IsWhole) (arg7 : Memref sig .tc .smem S13 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (hc0 : ¬cond0_0 i) (hc1 : ¬cond0_1 i)
    (x0 : Vec F S16x128 .f32) (x1 : Vec F S4096x128 .f32) (x2 : Vec F S4096x128 .f32) (x3 : Vec F S13x16x8x128 .f32) (x4 : Vec F S15x128x128 .f32) (x5 : Vec F S15 .f32) (x6 : Vec F S13 .i32) (xs0 : Vec F S16x128 .f32) (xs1 : Vec F S16x128 .f32) (xs2 : Vec F S16x128 .f32) : sout0_B_2 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 = ga x0 x2 (fm x0 x1 xs0) (fa x0 x1 xs0 xs2) := by
  frame_out
  simp only [readCov_col]
  rfl

/-- Case C: what scratch 0 holds after the grid point. -/
theorem sout_C_0 (c : Dev nD) (i : grid0.Coords) (arg1 : Memref sig .tc .vmem S16x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x16x8x128 .f32) (harg4 : arg4.IsWhole) (arg5 : Memref sig .tc .vmem S15x128x128 .f32) (harg5 : arg5.IsWhole) (arg6 : Memref sig .tc .smem S15 .f32) (harg6 : arg6.IsWhole) (arg7 : Memref sig .tc .smem S13 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (hc0 : ¬cond0_0 i) (hc1 : cond0_1 i)
    (x0 : Vec F S16x128 .f32) (x1 : Vec F S4096x128 .f32) (x2 : Vec F S4096x128 .f32) (x3 : Vec F S13x16x8x128 .f32) (x4 : Vec F S15x128x128 .f32) (x5 : Vec F S15 .f32) (x6 : Vec F S13 .i32) (xs0 : Vec F S16x128 .f32) (xs1 : Vec F S16x128 .f32) (xs2 : Vec F S16x128 .f32) (k0_hw1 : k0_chk1 i (arg7.view.readAt (Elt F) (Rect.unit (s := S13) ![0] S1.size inb_S13_S1_0).toLoadRect (harg7.unread x6) (Shape.Idx.first (numel1_S1.symm ▸ Nat.one_pos)))) (k0_hw2 : k0_chk2 i (arg7.view.readAt (Elt F) (Rect.unit (s := S13) ![1] S1.size inb_S13_S1_1).toLoadRect (harg7.unread x6) (Shape.Idx.first (numel1_S1.symm ▸ Nat.one_pos)))) (k0_hw3 : k0_chk3 i (arg7.view.readAt (Elt F) (Rect.unit (s := S13) ![2] S1.size inb_S13_S1_2).toLoadRect (harg7.unread x6) (Shape.Idx.first (numel1_S1.symm ▸ Nat.one_pos)))) (k0_hw4 : k0_chk4 i (arg7.view.readAt (Elt F) (Rect.unit (s := S13) ![3] S1.size inb_S13_S1_3).toLoadRect (harg7.unread x6) (Shape.Idx.first (numel1_S1.symm ▸ Nat.one_pos)))) (k0_hw5 : k0_chk5 i (arg7.view.readAt (Elt F) (Rect.unit (s := S13) ![4] S1.size inb_S13_S1_4).toLoadRect (harg7.unread x6) (Shape.Idx.first (numel1_S1.symm ▸ Nat.one_pos)))) (k0_hw6 : k0_chk6 i (arg7.view.readAt (Elt F) (Rect.unit (s := S13) ![5] S1.size inb_S13_S1_5).toLoadRect (harg7.unread x6) (Shape.Idx.first (numel1_S1.symm ▸ Nat.one_pos)))) (k0_hw7 : k0_chk7 i (arg7.view.readAt (Elt F) (Rect.unit (s := S13) ![6] S1.size inb_S13_S1_6).toLoadRect (harg7.unread x6) (Shape.Idx.first (numel1_S1.symm ▸ Nat.one_pos)))) (k0_hw8 : k0_chk8 i (arg7.view.readAt (Elt F) (Rect.unit (s := S13) ![7] S1.size inb_S13_S1_7).toLoadRect (harg7.unread x6) (Shape.Idx.first (numel1_S1.symm ▸ Nat.one_pos)))) (k0_hw9 : k0_chk9 i (arg7.view.readAt (Elt F) (Rect.unit (s := S13) ![8] S1.size inb_S13_S1_8).toLoadRect (harg7.unread x6) (Shape.Idx.first (numel1_S1.symm ▸ Nat.one_pos)))) (k0_hw10 : k0_chk10 i (arg7.view.readAt (Elt F) (Rect.unit (s := S13) ![9] S1.size inb_S13_S1_9).toLoadRect (harg7.unread x6) (Shape.Idx.first (numel1_S1.symm ▸ Nat.one_pos)))) (k0_hw11 : k0_chk11 i (arg7.view.readAt (Elt F) (Rect.unit (s := S13) ![10] S1.size inb_S13_S1_10).toLoadRect (harg7.unread x6) (Shape.Idx.first (numel1_S1.symm ▸ Nat.one_pos)))) (k0_hw12 : k0_chk12 i (arg7.view.readAt (Elt F) (Rect.unit (s := S13) ![11] S1.size inb_S13_S1_11).toLoadRect (harg7.unread x6) (Shape.Idx.first (numel1_S1.symm ▸ Nat.one_pos)))) (k0_hw13 : k0_chk13 i (arg7.view.readAt (Elt F) (Rect.unit (s := S13) ![12] S1.size inb_S13_S1_12).toLoadRect (harg7.unread x6) (Shape.Idx.first (numel1_S1.symm ▸ Nat.one_pos)))) : sout0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 k0_hw1 k0_hw2 k0_hw3 k0_hw4 k0_hw5 k0_hw6 k0_hw7 k0_hw8 k0_hw9 k0_hw10 k0_hw11 k0_hw12 k0_hw13 = gm x0 x2 (fm x0 x1 xs0) := by
  frame_out
  simp only [readCov_col]
  rfl

/-- Case C: what scratch 1 holds after the grid point. -/
theorem sout_C_1 (c : Dev nD) (i : grid0.Coords) (arg1 : Memref sig .tc .vmem S16x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x16x8x128 .f32) (harg4 : arg4.IsWhole) (arg5 : Memref sig .tc .vmem S15x128x128 .f32) (harg5 : arg5.IsWhole) (arg6 : Memref sig .tc .smem S15 .f32) (harg6 : arg6.IsWhole) (arg7 : Memref sig .tc .smem S13 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (hc0 : ¬cond0_0 i) (hc1 : cond0_1 i)
    (x0 : Vec F S16x128 .f32) (x1 : Vec F S4096x128 .f32) (x2 : Vec F S4096x128 .f32) (x3 : Vec F S13x16x8x128 .f32) (x4 : Vec F S15x128x128 .f32) (x5 : Vec F S15 .f32) (x6 : Vec F S13 .i32) (xs0 : Vec F S16x128 .f32) (xs1 : Vec F S16x128 .f32) (xs2 : Vec F S16x128 .f32) (k0_hw1 : k0_chk1 i (arg7.view.readAt (Elt F) (Rect.unit (s := S13) ![0] S1.size inb_S13_S1_0).toLoadRect (harg7.unread x6) (Shape.Idx.first (numel1_S1.symm ▸ Nat.one_pos)))) (k0_hw2 : k0_chk2 i (arg7.view.readAt (Elt F) (Rect.unit (s := S13) ![1] S1.size inb_S13_S1_1).toLoadRect (harg7.unread x6) (Shape.Idx.first (numel1_S1.symm ▸ Nat.one_pos)))) (k0_hw3 : k0_chk3 i (arg7.view.readAt (Elt F) (Rect.unit (s := S13) ![2] S1.size inb_S13_S1_2).toLoadRect (harg7.unread x6) (Shape.Idx.first (numel1_S1.symm ▸ Nat.one_pos)))) (k0_hw4 : k0_chk4 i (arg7.view.readAt (Elt F) (Rect.unit (s := S13) ![3] S1.size inb_S13_S1_3).toLoadRect (harg7.unread x6) (Shape.Idx.first (numel1_S1.symm ▸ Nat.one_pos)))) (k0_hw5 : k0_chk5 i (arg7.view.readAt (Elt F) (Rect.unit (s := S13) ![4] S1.size inb_S13_S1_4).toLoadRect (harg7.unread x6) (Shape.Idx.first (numel1_S1.symm ▸ Nat.one_pos)))) (k0_hw6 : k0_chk6 i (arg7.view.readAt (Elt F) (Rect.unit (s := S13) ![5] S1.size inb_S13_S1_5).toLoadRect (harg7.unread x6) (Shape.Idx.first (numel1_S1.symm ▸ Nat.one_pos)))) (k0_hw7 : k0_chk7 i (arg7.view.readAt (Elt F) (Rect.unit (s := S13) ![6] S1.size inb_S13_S1_6).toLoadRect (harg7.unread x6) (Shape.Idx.first (numel1_S1.symm ▸ Nat.one_pos)))) (k0_hw8 : k0_chk8 i (arg7.view.readAt (Elt F) (Rect.unit (s := S13) ![7] S1.size inb_S13_S1_7).toLoadRect (harg7.unread x6) (Shape.Idx.first (numel1_S1.symm ▸ Nat.one_pos)))) (k0_hw9 : k0_chk9 i (arg7.view.readAt (Elt F) (Rect.unit (s := S13) ![8] S1.size inb_S13_S1_8).toLoadRect (harg7.unread x6) (Shape.Idx.first (numel1_S1.symm ▸ Nat.one_pos)))) (k0_hw10 : k0_chk10 i (arg7.view.readAt (Elt F) (Rect.unit (s := S13) ![9] S1.size inb_S13_S1_9).toLoadRect (harg7.unread x6) (Shape.Idx.first (numel1_S1.symm ▸ Nat.one_pos)))) (k0_hw11 : k0_chk11 i (arg7.view.readAt (Elt F) (Rect.unit (s := S13) ![10] S1.size inb_S13_S1_10).toLoadRect (harg7.unread x6) (Shape.Idx.first (numel1_S1.symm ▸ Nat.one_pos)))) (k0_hw12 : k0_chk12 i (arg7.view.readAt (Elt F) (Rect.unit (s := S13) ![11] S1.size inb_S13_S1_11).toLoadRect (harg7.unread x6) (Shape.Idx.first (numel1_S1.symm ▸ Nat.one_pos)))) (k0_hw13 : k0_chk13 i (arg7.view.readAt (Elt F) (Rect.unit (s := S13) ![12] S1.size inb_S13_S1_12).toLoadRect (harg7.unread x6) (Shape.Idx.first (numel1_S1.symm ▸ Nat.one_pos)))) : sout0_C_1 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 k0_hw1 k0_hw2 k0_hw3 k0_hw4 k0_hw5 k0_hw6 k0_hw7 k0_hw8 k0_hw9 k0_hw10 k0_hw11 k0_hw12 k0_hw13 = gl x0 x2 (fm x0 x1 xs0) (fl x0 x1 xs0 xs1) := by
  frame_out
  simp only [readCov_col]
  rfl

/-- Case C: what scratch 2 holds after the grid point. -/
theorem sout_C_2 (c : Dev nD) (i : grid0.Coords) (arg1 : Memref sig .tc .vmem S16x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x16x8x128 .f32) (harg4 : arg4.IsWhole) (arg5 : Memref sig .tc .vmem S15x128x128 .f32) (harg5 : arg5.IsWhole) (arg6 : Memref sig .tc .smem S15 .f32) (harg6 : arg6.IsWhole) (arg7 : Memref sig .tc .smem S13 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (hc0 : ¬cond0_0 i) (hc1 : cond0_1 i)
    (x0 : Vec F S16x128 .f32) (x1 : Vec F S4096x128 .f32) (x2 : Vec F S4096x128 .f32) (x3 : Vec F S13x16x8x128 .f32) (x4 : Vec F S15x128x128 .f32) (x5 : Vec F S15 .f32) (x6 : Vec F S13 .i32) (xs0 : Vec F S16x128 .f32) (xs1 : Vec F S16x128 .f32) (xs2 : Vec F S16x128 .f32) (k0_hw1 : k0_chk1 i (arg7.view.readAt (Elt F) (Rect.unit (s := S13) ![0] S1.size inb_S13_S1_0).toLoadRect (harg7.unread x6) (Shape.Idx.first (numel1_S1.symm ▸ Nat.one_pos)))) (k0_hw2 : k0_chk2 i (arg7.view.readAt (Elt F) (Rect.unit (s := S13) ![1] S1.size inb_S13_S1_1).toLoadRect (harg7.unread x6) (Shape.Idx.first (numel1_S1.symm ▸ Nat.one_pos)))) (k0_hw3 : k0_chk3 i (arg7.view.readAt (Elt F) (Rect.unit (s := S13) ![2] S1.size inb_S13_S1_2).toLoadRect (harg7.unread x6) (Shape.Idx.first (numel1_S1.symm ▸ Nat.one_pos)))) (k0_hw4 : k0_chk4 i (arg7.view.readAt (Elt F) (Rect.unit (s := S13) ![3] S1.size inb_S13_S1_3).toLoadRect (harg7.unread x6) (Shape.Idx.first (numel1_S1.symm ▸ Nat.one_pos)))) (k0_hw5 : k0_chk5 i (arg7.view.readAt (Elt F) (Rect.unit (s := S13) ![4] S1.size inb_S13_S1_4).toLoadRect (harg7.unread x6) (Shape.Idx.first (numel1_S1.symm ▸ Nat.one_pos)))) (k0_hw6 : k0_chk6 i (arg7.view.readAt (Elt F) (Rect.unit (s := S13) ![5] S1.size inb_S13_S1_5).toLoadRect (harg7.unread x6) (Shape.Idx.first (numel1_S1.symm ▸ Nat.one_pos)))) (k0_hw7 : k0_chk7 i (arg7.view.readAt (Elt F) (Rect.unit (s := S13) ![6] S1.size inb_S13_S1_6).toLoadRect (harg7.unread x6) (Shape.Idx.first (numel1_S1.symm ▸ Nat.one_pos)))) (k0_hw8 : k0_chk8 i (arg7.view.readAt (Elt F) (Rect.unit (s := S13) ![7] S1.size inb_S13_S1_7).toLoadRect (harg7.unread x6) (Shape.Idx.first (numel1_S1.symm ▸ Nat.one_pos)))) (k0_hw9 : k0_chk9 i (arg7.view.readAt (Elt F) (Rect.unit (s := S13) ![8] S1.size inb_S13_S1_8).toLoadRect (harg7.unread x6) (Shape.Idx.first (numel1_S1.symm ▸ Nat.one_pos)))) (k0_hw10 : k0_chk10 i (arg7.view.readAt (Elt F) (Rect.unit (s := S13) ![9] S1.size inb_S13_S1_9).toLoadRect (harg7.unread x6) (Shape.Idx.first (numel1_S1.symm ▸ Nat.one_pos)))) (k0_hw11 : k0_chk11 i (arg7.view.readAt (Elt F) (Rect.unit (s := S13) ![10] S1.size inb_S13_S1_10).toLoadRect (harg7.unread x6) (Shape.Idx.first (numel1_S1.symm ▸ Nat.one_pos)))) (k0_hw12 : k0_chk12 i (arg7.view.readAt (Elt F) (Rect.unit (s := S13) ![11] S1.size inb_S13_S1_11).toLoadRect (harg7.unread x6) (Shape.Idx.first (numel1_S1.symm ▸ Nat.one_pos)))) (k0_hw13 : k0_chk13 i (arg7.view.readAt (Elt F) (Rect.unit (s := S13) ![12] S1.size inb_S13_S1_12).toLoadRect (harg7.unread x6) (Shape.Idx.first (numel1_S1.symm ▸ Nat.one_pos)))) : sout0_C_2 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 k0_hw1 k0_hw2 k0_hw3 k0_hw4 k0_hw5 k0_hw6 k0_hw7 k0_hw8 k0_hw9 k0_hw10 k0_hw11 k0_hw12 k0_hw13 = ga x0 x2 (fm x0 x1 xs0) (fa x0 x1 xs0 xs2) := by
  frame_out
  simp only [readCov_col]
  rfl

/-- One tree node's share: queries shifted by their own image, scored against the node's eight rows, and the
softmax-weighted rows summed. -/
def nodeW (q : FVec F S16x128 .f32) (wd : Vec F S1x128x128 .f32) (sc : Elt F .f32) (nf : Vec F S1x16x8x128 .f32) :
    FVec F S16x128 .f32 :=
  have nodeRows : FVec F S16x8x128 .f32 := shapeCast S16x8x128 nf shapeCasts_S1x16x8x128_S16x8x128
  have shifted : FVec F S16x128 .f32 := addf q (matmul dot_S16x128_S128x128_S16x128_1_1_0_0_n_n none q
    (shapeCast S128x128 wd shapeCasts_S1x128x128_S128x128) (constant S16x128 .f32 0x00000000#32))
  have score : FVec F S16x8 .f32 := mulf (multiReduction .add [2] S16x8
    (mulf (broadcastTo S16x8x128 (shapeCast S16x1x128 shifted shapeCasts_S16x128_S16x1x128) broadcasts_S16x1x128_S16x8x128)
      nodeRows) 0x00000000#32 reduces_S16x8x128_S16x8 (.inl rfl) rfl) (broadcast S16x8 sc)
  have top : FVec F S16 .f32 := multiReduction .maximumf [1] S16 score 0xFF800000#32 reduces_S16x8_S16 (.inl rfl) rfl
  have e : FVec F S16x8 .f32 :=
    exp (subf score (broadcastTo S16x8 (shapeCast S16x1 top shapeCasts_S16_S16x1) broadcasts_S16x1_S16x8))
  have total : FVec F S16 .f32 := multiReduction .add [1] S16 e 0x00000000#32 reduces_S16x8_S16 (.inl rfl) rfl
  have weight : FVec F S16x8 .f32 :=
    divf e (broadcastTo S16x8 (shapeCast S16x1 total shapeCasts_S16_S16x1) broadcasts_S16x1_S16x8)
  multiReduction .add [1] S16x128 (mulf (broadcastTo S16x8x128 (shapeCast S16x8x1 weight shapeCasts_S16x8_S16x8x1)
    broadcasts_S16x8x1_S16x8x128) nodeRows) 0x00000000#32 reduces_S16x8x128_S16x128 (.inl rfl) rfl

/-- The stored result: the normalised attention plus a thirteenth of the summed node shares. -/
def finish (a l : Vec F S16x128 .f32) (n : Fin 13 → FVec F S16x128 .f32) : FVec F S16x128 .f32 :=
  addf (divf a (broadcastTo S16x128 (col l) broadcasts_S16x1_S16x128))
    (mulf (addf (addf (addf (addf (addf (addf (addf (addf (addf (addf (addf (addf (addf
      (broadcast S16x128 (Scalar.ofBits .f32 0x00000000#32)) (n 0)) (n 1)) (n 2)) (n 3)) (n 4)) (n 5)) (n 6)) (n 7))
      (n 8)) (n 9)) (n 10)) (n 11)) (n 12)) (broadcast S16x128 (Named.named κ "inv13" 0x3D9D89D9#32)))

/-- The slice of the per-depth matrices that a depth word names. -/
def wdOf (x : Vec F S15x128x128 .f32) (w : BitVec 32) : Vec F S1x128x128 .f32 :=
  fun i => x (ix3 ⟨w.toNat % 15, Nat.mod_lt _ (by norm_num)⟩ (i 1) (i 2))
/-- The per-depth scale that a depth word names. -/
def scOf (x : Vec F S15 .f32) (w : BitVec 32) : Elt F .f32 := x (ix1 ⟨w.toNat % 15, Nat.mod_lt _ (by norm_num)⟩)
/-- The rows of one tree node. -/
def nfOf (x : Vec F S13x16x8x128 .f32) (j : Fin 13) : Vec F S1x16x8x128 .f32 := fun i => x (ix4 j (i 1) (i 2) (i 3))

/-- Loading a depth's matrix through a box that starts at the word reads that depth's slice. -/
theorem ld_wd (x : Vec F S15x128x128 .f32) (w : BitVec 32) (off : Fin 3 → Nat) (h : off = ![w.toNat, 0, 0])
    (inb : ∀ a, off a + (![1, 128, 128] : Fin 3 → Nat) a ≤ S15x128x128.size a) :
    View.ld x (Rect.unit off ![1, 128, 128] inb) = wdOf x w := by
  subst h
  funext i
  have h0 : w.toNat + 1 ≤ 15 := inb 0
  refine View.ld_unit_apply_of x _ _ inb i _ fun a => ?_
  have hi : (i 0).val < 1 := (i 0).isLt
  have h1 : w.toNat % 15 = w.toNat := Nat.mod_eq_of_lt (by omega)
  match a with
  | ⟨0, _⟩ => show w.toNat % 15 = w.toNat + (i 0).val; omega
  | ⟨1, _⟩ => show (i 1).val = 0 + (i 1).val; omega
  | ⟨2, _⟩ => show (i 2).val = 0 + (i 2).val; omega

/-- Loading a depth's scale through a box that starts at the word reads that depth's scale. -/
theorem ld_sc (x : Vec F S15 .f32) (w : BitVec 32) (off : Fin 1 → Nat) (h : off = ![w.toNat])
    (inb : ∀ a, off a + (![1] : Fin 1 → Nat) a ≤ S15.size a) (k : (Rect.unit (s := S15) off ![1] inb).shape.Idx) :
    View.ld x (Rect.unit off ![1] inb) k = scOf x w := by
  subst h
  have h0 : w.toNat + 1 ≤ 15 := inb 0
  refine View.ld_unit_apply_of x _ _ inb k _ fun a => ?_
  have hi : (k 0).val < 1 := (k 0).isLt
  have h1 : w.toNat % 15 = w.toNat := Nat.mod_eq_of_lt (by omega)
  match a with
  | ⟨0, _⟩ => show w.toNat % 15 = w.toNat + (k 0).val; omega

/-- Loading one node's rows. -/
theorem ld_nf (x : Vec F S13x16x8x128 .f32) (j : Fin 13) (off : Fin 4 → Nat) (h : off = ![j.val, 0, 0, 0])
    (inb : ∀ a, off a + (![1, 16, 8, 128] : Fin 4 → Nat) a ≤ S13x16x8x128.size a) :
    View.ld x (Rect.unit off ![1, 16, 8, 128] inb) = nfOf x j := by
  subst h
  funext i
  refine View.ld_unit_apply_of x _ _ inb i _ fun a => ?_
  have hi : (i 0).val < 1 := (i 0).isLt
  match a with
  | ⟨0, _⟩ => show j.val = j.val + (i 0).val; omega
  | ⟨1, _⟩ => show (i 1).val = 0 + (i 1).val; omega
  | ⟨2, _⟩ => show (i 2).val = 0 + (i 2).val; omega
  | ⟨3, _⟩ => show (i 3).val = 0 + (i 3).val; omega

/-- Loading one depth word. -/
theorem ld_nd (x : Vec F S13 .i32) (j : Fin 13) (off : Fin 1 → Nat) (h : off = ![j.val])
    (inb : ∀ a, off a + (![1] : Fin 1 → Nat) a ≤ S13.size a) (k : (Rect.unit (s := S13) off ![1] inb).shape.Idx) :
    View.ld x (Rect.unit off ![1] inb) k = x (ix1 j) := by
  subst h
  refine View.ld_unit_apply_of x _ _ inb k _ fun a => ?_
  have hi : (k 0).val < 1 := (k 0).isLt
  match a with
  | ⟨0, _⟩ => show j.val = j.val + (k 0).val; omega

/-- `ld_wd` for a load through a buffer. -/
theorem rd_wd {κ : Kind} {sp : Space} (v : View sig κ sp S15x128x128 .f32) (f : v.ty.Contents (Elt F)) (w : BitVec 32)
    (off : Fin 3 → Nat) (h : off = ![w.toNat, 0, 0]) (inb : ∀ a, off a + S1x128x128.size a ≤ S15x128x128.size a) :
    v.readAt (Elt F) (Rect.unit (s := S15x128x128) off S1x128x128.size inb).toLoadRect f = wdOf (v.read (Elt F) f) w :=
  ld_wd _ w off h inb

/-- `ld_sc` for a load through a buffer. -/
theorem rd_sc {κ : Kind} {sp : Space} (v : View sig κ sp S15 .f32) (f : v.ty.Contents (Elt F)) (w : BitVec 32)
    (off : Fin 1 → Nat) (h : off = ![w.toNat]) (inb : ∀ a, off a + S1.size a ≤ S15.size a) (k) :
    v.readAt (Elt F) (Rect.unit (s := S15) off S1.size inb).toLoadRect f k = scOf (v.read (Elt F) f) w :=
  ld_sc _ w off h inb k

/-- `ld_nd` for a load through a buffer. -/
theorem rd_nd {κ : Kind} {sp : Space} (v : View sig κ sp S13 .i32) (f : v.ty.Contents (Elt F)) (j : Fin 13)
    (off : Fin 1 → Nat) (h : off = ![j.val]) (inb : ∀ a, off a + S1.size a ≤ S13.size a) (k) :
    v.readAt (Elt F) (Rect.unit (s := S13) off S1.size inb).toLoadRect f k = v.read (Elt F) f (ix1 j) :=
  ld_nd _ j off h inb k

end Cert.KVal
end
-- ==== Proof.KOut.lean ====
module

public import proofs.«01_k».proof.Proof.KVal
public import Idealize.ShloMosaic.Lib.Pipeline.Value
public import Idealize.ShloMosaic.Lib.Pipeline.ValueKit
public import Idealize.ShloMosaic.Lib.Pointwise
public import Idealize.ShloMosaic.Lib.Tactic

@[expose] public section

set_option maxRecDepth 16384
noncomputable section

namespace Cert.KVal

open Idealize.ShloMosaic Idealize.ShloMosaic.TcCoe Idealize.SL.Sem
open Cert.KernelIdeal Cert.KernelIdeal.Gen
variable {F : FTy → Type} [FloatOps F] [Named F]

/-- The last grid point's stored result, from the scratches it finds and its blocks. -/
theorem out_C (c : Dev nD) (i : grid0.Coords) (arg1 : Memref sig .tc .vmem S16x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S13x16x8x128 .f32) (harg4 : arg4.IsWhole) (arg5 : Memref sig .tc .vmem S15x128x128 .f32) (harg5 : arg5.IsWhole) (arg6 : Memref sig .tc .smem S15 .f32) (harg6 : arg6.IsWhole) (arg7 : Memref sig .tc .smem S13 .i32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (hc0 : ¬cond0_0 i) (hc1 : cond0_1 i)
    (x0 : Vec F S16x128 .f32) (x1 : Vec F S4096x128 .f32) (x2 : Vec F S4096x128 .f32) (x3 : Vec F S13x16x8x128 .f32) (x4 : Vec F S15x128x128 .f32) (x5 : Vec F S15 .f32) (x6 : Vec F S13 .i32) (xs0 : Vec F S16x128 .f32) (xs1 : Vec F S16x128 .f32) (xs2 : Vec F S16x128 .f32) (k0_hw1 : k0_chk1 i (arg7.view.readAt (Elt F) (Rect.unit (s := S13) ![0] S1.size inb_S13_S1_0).toLoadRect (harg7.unread x6) (Shape.Idx.first (numel1_S1.symm ▸ Nat.one_pos)))) (k0_hw2 : k0_chk2 i (arg7.view.readAt (Elt F) (Rect.unit (s := S13) ![1] S1.size inb_S13_S1_1).toLoadRect (harg7.unread x6) (Shape.Idx.first (numel1_S1.symm ▸ Nat.one_pos)))) (k0_hw3 : k0_chk3 i (arg7.view.readAt (Elt F) (Rect.unit (s := S13) ![2] S1.size inb_S13_S1_2).toLoadRect (harg7.unread x6) (Shape.Idx.first (numel1_S1.symm ▸ Nat.one_pos)))) (k0_hw4 : k0_chk4 i (arg7.view.readAt (Elt F) (Rect.unit (s := S13) ![3] S1.size inb_S13_S1_3).toLoadRect (harg7.unread x6) (Shape.Idx.first (numel1_S1.symm ▸ Nat.one_pos)))) (k0_hw5 : k0_chk5 i (arg7.view.readAt (Elt F) (Rect.unit (s := S13) ![4] S1.size inb_S13_S1_4).toLoadRect (harg7.unread x6) (Shape.Idx.first (numel1_S1.symm ▸ Nat.one_pos)))) (k0_hw6 : k0_chk6 i (arg7.view.readAt (Elt F) (Rect.unit (s := S13) ![5] S1.size inb_S13_S1_5).toLoadRect (harg7.unread x6) (Shape.Idx.first (numel1_S1.symm ▸ Nat.one_pos)))) (k0_hw7 : k0_chk7 i (arg7.view.readAt (Elt F) (Rect.unit (s := S13) ![6] S1.size inb_S13_S1_6).toLoadRect (harg7.unread x6) (Shape.Idx.first (numel1_S1.symm ▸ Nat.one_pos)))) (k0_hw8 : k0_chk8 i (arg7.view.readAt (Elt F) (Rect.unit (s := S13) ![7] S1.size inb_S13_S1_7).toLoadRect (harg7.unread x6) (Shape.Idx.first (numel1_S1.symm ▸ Nat.one_pos)))) (k0_hw9 : k0_chk9 i (arg7.view.readAt (Elt F) (Rect.unit (s := S13) ![8] S1.size inb_S13_S1_8).toLoadRect (harg7.unread x6) (Shape.Idx.first (numel1_S1.symm ▸ Nat.one_pos)))) (k0_hw10 : k0_chk10 i (arg7.view.readAt (Elt F) (Rect.unit (s := S13) ![9] S1.size inb_S13_S1_9).toLoadRect (harg7.unread x6) (Shape.Idx.first (numel1_S1.symm ▸ Nat.one_pos)))) (k0_hw11 : k0_chk11 i (arg7.view.readAt (Elt F) (Rect.unit (s := S13) ![10] S1.size inb_S13_S1_10).toLoadRect (harg7.unread x6) (Shape.Idx.first (numel1_S1.symm ▸ Nat.one_pos)))) (k0_hw12 : k0_chk12 i (arg7.view.readAt (Elt F) (Rect.unit (s := S13) ![11] S1.size inb_S13_S1_11).toLoadRect (harg7.unread x6) (Shape.Idx.first (numel1_S1.symm ▸ Nat.one_pos)))) (k0_hw13 : k0_chk13 i (arg7.view.readAt (Elt F) (Rect.unit (s := S13) ![12] S1.size inb_S13_S1_12).toLoadRect (harg7.unread x6) (Shape.Idx.first (numel1_S1.symm ▸ Nat.one_pos)))) : out0_C_7 c i arg1 harg1 arg2 harg2 arg3 harg3 arg4 harg4 arg5 harg5 arg6 harg6 arg7 harg7 arg8 harg8 arg9 harg9 arg10 harg10 arg11 harg11 hc0 hc1 x0 x1 x2 x3 x4 x5 x6 xs0 xs1 xs2 k0_hw1 k0_hw2 k0_hw3 k0_hw4 k0_hw5 k0_hw6 k0_hw7 k0_hw8 k0_hw9 k0_hw10 k0_hw11 k0_hw12 k0_hw13 =
    finish (ga x0 x2 (fm x0 x1 xs0) (fa x0 x1 xs0 xs2)) (gl x0 x2 (fm x0 x1 xs0) (fl x0 x1 xs0 xs1))
      (fun j => nodeW (k0_pay30 x0) (wdOf x4 (x6 (ix1 j))) (scOf x5 (x6 (ix1 j))) (nfOf x3 j)) := by
  frame_open
  simp only [↓ rd_wd _ _ _ (k0_off1 _) rfl, ↓ rd_sc _ _ _ (k0_off2 _) rfl, ↓ rd_nd _ _ 0 ![0] rfl,
    ↓ rd_wd _ _ _ (k0_off3 _) rfl, ↓ rd_sc _ _ _ (k0_off4 _) rfl, ↓ rd_nd _ _ 1 ![1] rfl,
    ↓ rd_wd _ _ _ (k0_off5 _) rfl, ↓ rd_sc _ _ _ (k0_off6 _) rfl, ↓ rd_nd _ _ 2 ![2] rfl,
    ↓ rd_wd _ _ _ (k0_off7 _) rfl, ↓ rd_sc _ _ _ (k0_off8 _) rfl, ↓ rd_nd _ _ 3 ![3] rfl,
    ↓ rd_wd _ _ _ (k0_off9 _) rfl, ↓ rd_sc _ _ _ (k0_off10 _) rfl, ↓ rd_nd _ _ 4 ![4] rfl,
    ↓ rd_wd _ _ _ (k0_off11 _) rfl, ↓ rd_sc _ _ _ (k0_off12 _) rfl, ↓ rd_nd _ _ 5 ![5] rfl,
    ↓ rd_wd _ _ _ (k0_off13 _) rfl, ↓ rd_sc _ _ _ (k0_off14 _) rfl, ↓ rd_nd _ _ 6 ![6] rfl,
    ↓ rd_wd _ _ _ (k0_off15 _) rfl, ↓ rd_sc _ _ _ (k0_off16 _) rfl, ↓ rd_nd _ _ 7 ![7] rfl,
    ↓ rd_wd _ _ _ (k0_off17 _) rfl, ↓ rd_sc _ _ _ (k0_off18 _) rfl, ↓ rd_nd _ _ 8 ![8] rfl,
    ↓ rd_wd _ _ _ (k0_off19 _) rfl, ↓ rd_sc _ _ _ (k0_off20 _) rfl, ↓ rd_nd _ _ 9 ![9] rfl,
    ↓ rd_wd _ _ _ (k0_off21 _) rfl, ↓ rd_sc _ _ _ (k0_off22 _) rfl, ↓ rd_nd _ _ 10 ![10] rfl,
    ↓ rd_wd _ _ _ (k0_off23 _) rfl, ↓ rd_sc _ _ _ (k0_off24 _) rfl, ↓ rd_nd _ _ 11 ![11] rfl,
    ↓ rd_wd _ _ _ (k0_off25 _) rfl, ↓ rd_sc _ _ _ (k0_off26 _) rfl, ↓ rd_nd _ _ 12 ![12] rfl]
  frame_out
  simp only [↓ ld_nf x3 0 ![0, 0, 0, 0] rfl, ↓ ld_nf x3 1 ![1, 0, 0, 0] rfl, ↓ ld_nf x3 2 ![2, 0, 0, 0] rfl, ↓ ld_nf x3 3 ![3, 0, 0, 0] rfl, ↓ ld_nf x3 4 ![4, 0, 0, 0] rfl, ↓ ld_nf x3 5 ![5, 0, 0, 0] rfl, ↓ ld_nf x3 6 ![6, 0, 0, 0] rfl, ↓ ld_nf x3 7 ![7, 0, 0, 0] rfl, ↓ ld_nf x3 8 ![8, 0, 0, 0] rfl, ↓ ld_nf x3 9 ![9, 0, 0, 0] rfl, ↓ ld_nf x3 10 ![10, 0, 0, 0] rfl, ↓ ld_nf x3 11 ![11, 0, 0, 0] rfl, ↓ ld_nf x3 12 ![12, 0, 0, 0] rfl]
  simp only [readCov_col, harg7.read_unread]
  rfl

end Cert.KVal
end
-- ==== Proof.Flash.lean ====
module

public import Idealize.ShloMosaic.Lib.Pointwise

@[expose] public section

noncomputable section

namespace Cert.Flash

open Idealize.ShloMosaic

/-- The exponential of an extended real is never negative. -/
theorem exp_nonneg (a : EReal) : 0 ≤ Ideal.exp a := by
  induction a using EReal.rec with
  | bot => simp
  | top => simp
  | coe r => rw [Ideal.exp_coe]; exact_mod_cast (Real.exp_pos r).le

/-- The exponential of a number minus a larger one is not infinite. -/
theorem exp_sub_ne_top {a b : EReal} (h : a ≤ b) : Ideal.exp (a - b) ≠ ⊤ := by
  induction b using EReal.rec with
  | bot => rw [le_bot_iff.mp h]; simp
  | top => simp
  | coe r =>
    induction a using EReal.rec with
    | bot => simp
    | top => exact absurd (top_le_iff.mp h) (EReal.coe_ne_top r)
    | coe x => rw [← EReal.coe_sub, Ideal.exp_coe]; exact EReal.coe_ne_top _

/-- Weights taken against an old maximum become weights against a larger one by one common factor. -/
theorem exp_shift {a M N : EReal} (h : a ≤ M) (h' : M ≤ N) :
    Ideal.exp (a - M) * Ideal.exp (M - N) = Ideal.exp (a - N) := by
  induction N using EReal.rec with
  | bot =>
    obtain rfl := le_bot_iff.mp h'
    obtain rfl := le_bot_iff.mp h
    simp
  | top => simp
  | coe n =>
    induction M using EReal.rec with
    | bot => obtain rfl := le_bot_iff.mp h; simp
    | top => exact absurd (top_le_iff.mp h') (EReal.coe_ne_top n)
    | coe m =>
      induction a using EReal.rec with
      | bot => simp
      | top => exact absurd (top_le_iff.mp h) (EReal.coe_ne_top m)
      | coe x =>
        rw [← EReal.coe_sub, ← EReal.coe_sub, ← EReal.coe_sub, Ideal.exp_coe, Ideal.exp_coe, Ideal.exp_coe,
          ← EReal.coe_mul, ← Real.exp_add]
        congr 2; ring

variable {ι : Type*} [DecidableEq ι]

/-- A finite sum scales term by term, by a factor that is neither negative nor infinite. -/
theorem sum_mul_real (S : Finset ι) (f : ι → EReal) {c : EReal} (h0 : 0 ≤ c) (h1 : c ≠ ⊤) :
    (∑ i ∈ S, f i) * c = ∑ i ∈ S, f i * c := by
  induction S using Finset.induction_on with
  | empty => simp
  | insert a S ha ih =>
    rw [Finset.sum_insert ha, Finset.sum_insert ha, EReal.right_distrib_of_nonneg_of_ne_top h0 h1, ih]

/-- The largest score among some keys. -/
def mx (s : ι → EReal) (S : Finset ι) : EReal := S.sup s
/-- The normaliser over some keys. -/
def nm (s : ι → EReal) (S : Finset ι) : EReal := ∑ i ∈ S, Ideal.exp (s i - mx s S)
/-- The weighted sum over some keys. -/
def ws (s v : ι → EReal) (S : Finset ι) : EReal := ∑ i ∈ S, Ideal.exp (s i - mx s S) * v i

/-- The maximum over a union is the larger of the two maxima. -/
theorem mx_union (s : ι → EReal) (S T : Finset ι) : mx s (S ∪ T) = max (mx s S) (mx s T) := Finset.sup_union

/-- The normaliser after more keys, from the one before. -/
theorem nm_union (s : ι → EReal) {S T : Finset ι} (h : Disjoint S T) :
    nm s S * Ideal.exp (mx s S - mx s (S ∪ T)) + ∑ i ∈ T, Ideal.exp (s i - mx s (S ∪ T)) = nm s (S ∪ T) := by
  have hle : mx s S ≤ mx s (S ∪ T) := Finset.sup_mono Finset.subset_union_left
  rw [nm, nm, Finset.sum_union h, sum_mul_real _ _ (exp_nonneg _) (exp_sub_ne_top hle)]
  congr 1
  exact Finset.sum_congr rfl fun i hi => exp_shift (Finset.le_sup hi) hle

/-- The weighted sum after more keys, from the one before. -/
theorem ws_union (s v : ι → EReal) {S T : Finset ι} (h : Disjoint S T) :
    ws s v S * Ideal.exp (mx s S - mx s (S ∪ T)) + ∑ i ∈ T, Ideal.exp (s i - mx s (S ∪ T)) * v i
      = ws s v (S ∪ T) := by
  have hle : mx s S ≤ mx s (S ∪ T) := Finset.sup_mono Finset.subset_union_left
  rw [ws, ws, Finset.sum_union h, sum_mul_real _ _ (exp_nonneg _) (exp_sub_ne_top hle)]
  congr 1
  refine Finset.sum_congr rfl fun i hi => ?_
  rw [mul_right_comm]
  exact congrArg (· * v i) (exp_shift (Finset.le_sup hi) hle)

/-- With real scores the normaliser is not zero: the largest score weighs one. -/
theorem nm_ne_zero (s : ι → EReal) {S : Finset ι} (hS : S.Nonempty) (hs : ∀ i, s i ≠ ⊤ ∧ s i ≠ ⊥) : nm s S ≠ 0 := by
  obtain ⟨k, hk, hm⟩ := Finset.exists_mem_eq_sup S hS s
  have h1 : Ideal.exp (s k - mx s S) = 1 := by
    show Ideal.exp (s k - S.sup s) = 1
    rw [hm, EReal.sub_self (hs k).1 (hs k).2]
    show ((Real.exp 0 : ℝ) : EReal) = 1
    rw [Real.exp_zero]; rfl
  have h2 : Ideal.exp (s k - mx s S) ≤ nm s S :=
    Finset.single_le_sum (f := fun i => Ideal.exp (s i - mx s S)) (fun i _ => exp_nonneg _) hk
  rw [h1] at h2
  exact (lt_of_lt_of_le zero_lt_one h2).ne'

/-- Dividing the weighted sum by the normaliser weighs every value by its divided weight. -/
theorem ws_div (s v : ι → EReal) {S : Finset ι} (hS : S.Nonempty) (hs : ∀ i, s i ≠ ⊤ ∧ s i ≠ ⊥) :
    Ideal.div (ws s v S) (nm s S) = ∑ i ∈ S, Ideal.div (Ideal.exp (s i - mx s S)) (nm s S) * v i := by
  have h := nm_ne_zero s hS hs
  have h0 : 0 ≤ nm s S := Finset.sum_nonneg fun i _ => exp_nonneg _
  have hi : (nm s S)⁻¹ ≠ ⊤ := by
    induction hn : nm s S using EReal.rec with
    | bot => simp
    | top => simp
    | coe r => rw [← EReal.coe_inv]; exact EReal.coe_ne_top _
  simp only [Ideal.div, if_neg h]
  rw [ws, sum_mul_real _ _ (EReal.inv_nonneg_of_nonneg h0) hi]
  exact Finset.sum_congr rfl fun i _ => mul_right_comm _ _ _

/-- Of terms that vanish off one residue class modulo sixteen, only that class is summed. -/
theorem sum_pick (f : Fin 4096 → EReal) (h : Fin 16) (hz : ∀ r : Fin 4096, r.val % 16 ≠ h.val → f r = 0) :
    ∑ r, f r = ∑ k : Fin 256, f ⟨16 * k.val + h.val, by omega⟩ := by
  refine (Fintype.sum_of_injective (fun k : Fin 256 => (⟨16 * k.val + h.val, by omega⟩ : Fin 4096)) ?_ _ _ ?_
    fun _ => rfl).symm
  · intro a b hab
    have := congrArg Fin.val hab
    simp only at this
    exact Fin.ext (by omega)
  · intro r hr
    refine hz r fun he => hr ⟨⟨r.val / 16, by omega⟩, Fin.ext ?_⟩
    show 16 * (r.val / 16) + h.val = r.val
    omega

/-- Of terms that are bottom off one residue class modulo sixteen, only that class counts in the maximum. -/
theorem sup_pick (f : Fin 4096 → EReal) (h : Fin 16) (hz : ∀ r : Fin 4096, r.val % 16 ≠ h.val → f r = ⊥) :
    Finset.univ.sup f = Finset.univ.sup fun k : Fin 256 => f ⟨16 * k.val + h.val, by omega⟩ := by
  refine le_antisymm (Finset.sup_le fun r _ => ?_) (Finset.sup_le fun k _ => Finset.le_sup (Finset.mem_univ _))
  by_cases he : r.val % 16 = h.val
  · have hr : r = ⟨16 * (⟨r.val / 16, by omega⟩ : Fin 256).val + h.val, by simp only; omega⟩ :=
      Fin.ext (by show r.val = 16 * (r.val / 16) + h.val; omega)
    rw [hr]
    exact Finset.le_sup (f := fun k : Fin 256 => f ⟨16 * k.val + h.val, by omega⟩) (Finset.mem_univ _)
  · rw [hz r he]; exact bot_le

/-- A maximum folded from bottom is the supremum. -/
theorem fold_max_bot {κ : Type*} (S : Finset κ) (f : κ → EReal) : S.fold max ⊥ f = S.sup f := rfl

end Cert.Flash
end
-- ==== Proof.Consts.lean ====
module

public import Idealize.ShloMosaic.Lib.Pointwise

@[expose] public section

noncomputable section

namespace Cert.Consts

open Idealize.ShloMosaic

/-- The empty maximum is bottom. -/
theorem negInf : Ideal.ofBits .f32 0xFF800000#32 = ⊥ := by simp [Ideal.ofBits, Ideal.ieee]

/-- The number of tree nodes. -/
theorem thirteen : Ideal.ofBits .f32 0x41500000#32 = ((13 : ℝ) : EReal) := by
  simp [Ideal.ofBits, Ideal.ieee, -EReal.coe_mul]; norm_num

/-- The rounded reciprocal square root of the head width is a real number. -/
theorem scale_real : ∃ r : ℝ, Ideal.ofBits .f32 0x3DB504F3#32 = (r : EReal) := by
  simp [Ideal.ofBits, Ideal.ieee, -EReal.coe_mul]

end Cert.Consts
end
-- ==== Proof.Pay.lean ====
module

public import proofs.«01_k».proof.Proof.KVal
public import proofs.«01_k».proof.Proof.Flash
public import proofs.«01_k».proof.Proof.Consts
public import Idealize.ShloMosaic.Lib.Pointwise

@[expose] public section

set_option maxRecDepth 16384
noncomputable section

namespace Cert.Pay

open Idealize.ShloMosaic
open Cert.KernelIdeal Cert.KernelIdeal.Gen Cert.KVal

/-- The kernel's rounded reciprocal square root of the head width. -/
abbrev c128 : EReal := Ideal.ofBits .f32 0x3DB504F3#32

/-- The score of key `k` of a block, for head `h`. -/
def score (q : Vec Ideal S16x128 .f32) (kv : Vec Ideal S4096x128 .f32) (h : Fin 16) (k : Fin 256) : EReal :=
  (∑ d : Fin 128, q (ix2 h d) * kv (ix2 ⟨16 * k.val + h.val, by omega⟩ d)) * c128

/-- The mask constant is bottom. -/
theorem mask_bot : (Named.named κ "mask" 0xF149F2CA#32 : Ideal .f32) = (⊥ : EReal) := rfl

/-- A lane-0 column at a head. -/
theorem col_apply (x : Vec Ideal S16x128 .f32) (h : Fin 16) (z : Fin 1) : col x (ix2 h z) = x (ix2 h 0) := by
  unfold col
  pointwise

/-- Key rows repeat the heads in order: row `r` belongs to head `r mod 16`. -/
theorem head_apply (h : Fin 16) (r : Fin 4096) : k0_pay29 (ix2 h r) = BitVec.ofNat 32 (r.val % 16) := by
  unfold k0_pay29
  pointwise
  revert r
  clear h
  decide +kernel

/-- The masked score: a row's scaled product with the head's query when the row belongs to the head, bottom otherwise. -/
theorem score_apply (q : Vec Ideal S16x128 .f32) (kv : Vec Ideal S4096x128 .f32) (h : Fin 16) (r : Fin 4096) :
    k0_pay32 q kv (ix2 h r) = if r.val % 16 = h.val then (∑ d : Fin 128, q (ix2 h d) * kv (ix2 r d)) * c128 else ⊥ := by
  have hr := head_apply h r
  unfold k0_pay32 k0_pay30 k0_pay31
  generalize k0_pay29 = y at hr ⊢
  pointwise
  rw [hr, mask_bot]
  have hw : IntOp.cmpi CmpIPredicate.eq (BitVec.ofNat 32 (r.val % 16)) (BitVec.ofNat 32 h.val)
      = if r.val % 16 = h.val then 1#1 else 0#1 := by
    have h1 : r.val % 16 < 16 := Nat.mod_lt _ (by norm_num)
    generalize r.val % 16 = n at h1 ⊢
    have h2 := h.isLt
    generalize h.val = k at h2 ⊢
    interval_cases n <;> interval_cases k <;> rfl
  rw [hw]
  split <;> rfl

/-- The masked score at a row of the head's own residue class. -/
theorem score_own (q : Vec Ideal S16x128 .f32) (kv : Vec Ideal S4096x128 .f32) (h : Fin 16) (k : Fin 256) :
    k0_pay32 q kv (ix2 h ⟨16 * k.val + h.val, by omega⟩) = score q kv h k := by
  rw [score_apply, if_pos (by show (16 * k.val + h.val) % 16 = h.val; omega)]
  rfl

/-- The new maximum: the old one against the block's scores for the head. -/
theorem m_apply (q : Vec Ideal S16x128 .f32) (kv : Vec Ideal S4096x128 .f32) (m : Vec Ideal S16x1 .f32) (h : Fin 16)
    (z : Fin 1) : k0_pay33 q kv m (ix2 h z) = max (m (ix2 h 0)) (Finset.univ.sup (score q kv h)) := by
  obtain rfl : z = 0 := Subsingleton.elim _ _
  have hs := Flash.sup_pick (fun r => k0_pay32 q kv (ix2 h r)) h (fun r hr => by
    show k0_pay32 q kv (ix2 h r) = ⊥
    rw [score_apply, if_neg hr])
  simp only [score_own] at hs
  unfold k0_pay33
  generalize k0_pay32 q kv = y at hs ⊢
  pointwise
  rw [Consts.negInf, Flash.fold_max_bot, hs]

/-- The scratch's new maximum on every lane. -/
theorem fm_apply (q : Vec Ideal S16x128 .f32) (kv : Vec Ideal S4096x128 .f32) (m : Vec Ideal S16x128 .f32) (h : Fin 16)
    (r : Fin 128) : fm q kv m (ix2 h r) = max (m (ix2 h 0)) (Finset.univ.sup (score q kv h)) := by
  have hm := m_apply q kv (col m) h 0
  rw [col_apply] at hm
  unfold fm k0_pay37
  generalize k0_pay33 q kv (col m) = z at hm ⊢
  pointwise
  exact hm

/-- The scratch's new normaliser on every lane. -/
theorem fl_apply (q : Vec Ideal S16x128 .f32) (kv : Vec Ideal S4096x128 .f32) (m l : Vec Ideal S16x128 .f32) (h : Fin 16)
    (r : Fin 128) : fl q kv m l (ix2 h r) = l (ix2 h 0) * Ideal.exp (m (ix2 h 0) - fm q kv m (ix2 h 0))
      + ∑ k, Ideal.exp (score q kv h k - fm q kv m (ix2 h 0)) := by
  have hm := m_apply q kv (col m) h 0
  rw [col_apply, ← fm_apply q kv m h 0] at hm
  have hs := Flash.sum_pick (fun r => Ideal.exp (k0_pay32 q kv (ix2 h r) - fm q kv m (ix2 h 0))) h (fun r hr => by
    show Ideal.exp (k0_pay32 q kv (ix2 h r) - _) = 0
    rw [score_apply, if_neg hr, EReal.bot_sub, Ideal.exp_bot])
  simp only [score_own] at hs
  rw [← hs, ← hm]
  unfold fl k0_pay38 k0_pay34 k0_pay35
  generalize k0_pay32 q kv = y
  generalize k0_pay33 q kv (col m) = z
  pointwise
  rw [col_apply, col_apply]

/-- The scratch's new weighted sum. -/
theorem fa_apply (q : Vec Ideal S16x128 .f32) (kv : Vec Ideal S4096x128 .f32) (m a : Vec Ideal S16x128 .f32) (h : Fin 16)
    (d : Fin 128) : fa q kv m a (ix2 h d) = a (ix2 h d) * Ideal.exp (m (ix2 h 0) - fm q kv m (ix2 h 0))
      + ∑ k : Fin 256, Ideal.exp (score q kv h k - fm q kv m (ix2 h 0)) * kv (ix2 ⟨16 * k.val + h.val, by omega⟩ d) := by
  have hm := m_apply q kv (col m) h 0
  rw [col_apply, ← fm_apply q kv m h 0] at hm
  have hs := Flash.sum_pick (fun r => Ideal.exp (k0_pay32 q kv (ix2 h r) - fm q kv m (ix2 h 0)) * kv (ix2 r d)) h
    (fun r hr => by
      show Ideal.exp (k0_pay32 q kv (ix2 h r) - _) * _ = 0
      rw [score_apply, if_neg hr, EReal.bot_sub, Ideal.exp_bot, zero_mul])
  simp only [score_own] at hs
  rw [← hs, ← hm]
  unfold fa k0_pay36 k0_pay34 k0_pay35 k0_pay31
  generalize k0_pay32 q kv = y
  generalize k0_pay33 q kv (col m) = z
  pointwise
  rw [col_apply]

/-- The second block's maximum is updated as the first block's. -/
theorem gm_eq (q : Vec Ideal S16x128 .f32) (kv : Vec Ideal S4096x128 .f32) (m : Vec Ideal S16x128 .f32) :
    gm q kv m = fm q kv m := rfl

/-- The second block's denominator is updated as the first block's. -/
theorem gl_eq (q : Vec Ideal S16x128 .f32) (kv : Vec Ideal S4096x128 .f32) (m l : Vec Ideal S16x128 .f32) :
    gl q kv m l = fl q kv m l := rfl

/-- The second block's accumulator is updated as the first block's. -/
theorem ga_eq (q : Vec Ideal S16x128 .f32) (kv : Vec Ideal S4096x128 .f32) (m a : Vec Ideal S16x128 .f32) :
    ga q kv m a = fa q kv m a := rfl

/-- The state a row of scratches holds after the keys of `S`. -/
structure Holds (s : Fin 16 → Fin 2048 → EReal) (v : Fin 16 → Fin 2048 → Fin 128 → EReal) (S : Finset (Fin 2048))
    (m l a : Vec Ideal S16x128 .f32) : Prop where
  m : ∀ h r, m (ix2 h r) = Flash.mx (s h) S
  l : ∀ h r, l (ix2 h r) = Flash.nm (s h) S
  a : ∀ h d, a (ix2 h d) = Flash.ws (s h) (fun k => v h k d) S

/-- Before any key. -/
theorem Holds.init (s : Fin 16 → Fin 2048 → EReal) (v : Fin 16 → Fin 2048 → Fin 128 → EReal) :
    Holds s v ∅ (k0_pay26 (F := Ideal)) (k0_pay27 (F := Ideal)) (k0_pay28 (F := Ideal)) where
  m h r := by
    unfold k0_pay26; pointwise
    rw [mask_bot]; rfl
  l h r := by
    unfold k0_pay27; pointwise
    rfl
  a h r := by
    unfold k0_pay28; pointwise
    rfl

/-- One more block of 256 keys, placed among all keys by `e`. -/
theorem Holds.step {s : Fin 16 → Fin 2048 → EReal} {v : Fin 16 → Fin 2048 → Fin 128 → EReal} {S : Finset (Fin 2048)}
    {m l a : Vec Ideal S16x128 .f32} (H : Holds s v S m l a) (q : Vec Ideal S16x128 .f32) (kv : Vec Ideal S4096x128 .f32)
    (e : Fin 256 ↪ Fin 2048) (he : Disjoint S (Finset.univ.map e)) (hs : ∀ h k, score q kv h k = s h (e k))
    (hv : ∀ h (k : Fin 256) d, kv (ix2 ⟨16 * k.val + h.val, by omega⟩ d) = v h (e k) d) :
    Holds s v (S ∪ Finset.univ.map e) (fm q kv m) (fl q kv m l) (fa q kv m a) := by
  have hm : ∀ h r, fm q kv m (ix2 h r) = Flash.mx (s h) (S ∪ Finset.univ.map e) := fun h r => by
    rw [fm_apply, H.m, Flash.mx_union]
    congr 1
    rw [Flash.mx, Finset.sup_map]
    exact Finset.sup_congr rfl fun k _ => hs h k
  refine ⟨hm, fun h r => ?_, fun h d => ?_⟩
  · rw [fl_apply, hm, H.m, H.l, ← Flash.nm_union (s h) he, Finset.sum_map]
    simp only [hs]
  · rw [fa_apply, hm, H.m, H.a, ← Flash.ws_union (s h) (fun k => v h k d) he, Finset.sum_map]
    simp only [hs, hv]

end Cert.Pay
end
-- ==== Proof.Blocks.lean ====
module

public import proofs.«01_k».proof.Proof.Gen.KernelIdeal.Frame
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384
noncomputable section

namespace Cert.Blocks

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The query's cast drops its leading axis. -/
theorem cast_q (x : FVec Ideal S1x16x128 .f32) (h : Fin 16) (d : Fin 128) :
    shapeCast S16x128 x shapeCasts_S1x16x128_S16x128 (ix2 h d) = x (ix3 0 h d) := by
  pointwise

/-- The tree's cast drops its unit axis. -/
theorem cast_t (x : FVec Ideal S13x1x16x8x128 .f32) (j : Fin 13) (h : Fin 16) (k : Fin 8) (d : Fin 128) :
    shapeCast S13x16x8x128 x shapeCasts_S13x1x16x8x128_S13x16x8x128 (ix4 j h k d) = x (ix5 j 0 h k d) := by
  pointwise

/-- A row of the flattened new keys is one key's head. -/
theorem cast_v (x : FVec Ideal S1024x16x128 .f32) (n k : Nat) (h : Fin 16) (d : Fin 128)
    (b : 4096 * n + (16 * k + h.val) < 16384) (b' : 256 * n + k < 1024) :
    shapeCast S16384x128 x shapeCasts_S1024x16x128_S16384x128 (ix2 ⟨4096 * n + (16 * k + h.val), b⟩ d)
      = x (ix3 ⟨256 * n + k, b'⟩ h d) := by
  pointwise
  have e : (⟨(4096 * n + (16 * k + h.val)) / 16, by omega⟩ : Fin 1024) = ⟨256 * n + k, b'⟩ :=
    Fin.ext (by simp only; omega)
  exact congrArg (fun a : Fin 1024 => x (ix3 a h d)) e

/-- A row of the flattened ring buffer is one key's head. -/
theorem cast_r (x : FVec Ideal S2048x16x128 .f32) (n k : Nat) (h : Fin 16) (d : Fin 128)
    (b : 4096 * (n + 4) + (16 * k + h.val) < 32768) (b' : 1024 + 256 * n + k < 2048) :
    shapeCast S32768x128 x shapeCasts_S2048x16x128_S32768x128 (ix2 ⟨4096 * (n + 4) + (16 * k + h.val), b⟩ d)
      = x (ix3 ⟨1024 + 256 * n + k, b'⟩ h d) := by
  pointwise
  have e : (⟨(4096 * (n + 4) + (16 * k + h.val)) / 16, by omega⟩ : Fin 2048) = ⟨1024 + 256 * n + k, b'⟩ :=
    Fin.ext (by simp only; omega)
  exact congrArg (fun a : Fin 2048 => x (ix3 a h d)) e

/-- The per-depth scales, from the temperatures: one over the shifted softplus times the root of the head width. -/
def scales (x : FVec Ideal S15 .f32) : FVec Ideal S15 .f32 :=
  have z : FVec Ideal S15 .f32 := broadcastInDim S15 ![] bcast_S_S15 (constant S_ .f32 0x00000000#32)
  have sp : FVec Ideal S15 .f32 := select (cmpf .une (subf x z) (subf x z)) (addf x z)
    (addf (maximumf x z) (Host.log1p (Host.exp (Host.negf (Host.absf (subf x z))))))
  Host.divf (broadcastInDim S15 ![] bcast_S_S15 (constant S_ .f32 0x3F800000#32))
    (mulf (addf sp (broadcastInDim S15 ![] bcast_S_S15 (constant S_ .f32 0x358637BD#32)))
      (broadcastInDim S15 ![] bcast_S_S15 (constant S_ .f32 0x413504F3#32)))

/-- The region finds the new keys reshaped to rows. -/
theorem V_v0 : V m c main_v0 = shapeCast S16384x128 (m ((c : Thread nD τ).loc main_arg0)) shapeCasts_S1024x16x128_S16384x128 := by
  show StableHlo.after (List.flatten [hostOps0, hostOps0_1, hostOps0_2]) _ (Proc.devRef .tc _) = _
  simp only [hostOps0, hostOps0_1, hostOps0_2, List.flatten_cons, List.flatten_nil, List.append_nil, List.cons_append,
    List.nil_append]
  after_results
  rfl
/-- The region finds the ring buffer reshaped to rows. -/
theorem V_v1 : V m c main_v1 = shapeCast S32768x128 (m ((c : Thread nD τ).loc main_arg2)) shapeCasts_S2048x16x128_S32768x128 := by
  show StableHlo.after (List.flatten [hostOps0, hostOps0_1, hostOps0_2]) _ (Proc.devRef .tc _) = _
  simp only [hostOps0, hostOps0_1, hostOps0_2, List.flatten_cons, List.flatten_nil, List.append_nil, List.cons_append,
    List.nil_append]
  after_results
  rfl
/-- The region finds the query without its leading axis. -/
theorem V_v2 : V m c main_v2 = shapeCast S16x128 (m ((c : Thread nD τ).loc main_arg1)) shapeCasts_S1x16x128_S16x128 := by
  show StableHlo.after (List.flatten [hostOps0, hostOps0_1, hostOps0_2]) _ (Proc.devRef .tc _) = _
  simp only [hostOps0, hostOps0_1, hostOps0_2, List.flatten_cons, List.flatten_nil, List.append_nil, List.cons_append,
    List.nil_append]
  after_results
  rfl
/-- The region finds the tree rows without their unit axis. -/
theorem V_v3 : V m c main_v3
    = shapeCast S13x16x8x128 (m ((c : Thread nD τ).loc main_arg3)) shapeCasts_S13x1x16x8x128_S13x16x8x128 := by
  show StableHlo.after (List.flatten [hostOps0, hostOps0_1, hostOps0_2]) _ (Proc.devRef .tc _) = _
  simp only [hostOps0, hostOps0_1, hostOps0_2, List.flatten_cons, List.flatten_nil, List.append_nil, List.cons_append,
    List.nil_append]
  after_results
  rfl
/-- The region finds the scales. -/
theorem V_v10 : V m c main_v10 = scales (m ((c : Thread nD τ).loc main_arg5)) := by
  show StableHlo.after (List.flatten [hostOps0, hostOps0_1, hostOps0_2]) _ (Proc.devRef .tc _) = _
  simp only [hostOps0, hostOps0_1, hostOps0_2, List.flatten_cons, List.flatten_nil, List.append_nil, List.cons_append,
    List.nil_append]
  after_results
  rfl

/-- Where each window's block stands at a grid point. -/
theorem idx : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val + 4 ∧ win0_2.index t (1 : Fin 2) = 0
    ∧ win0_3.index t (0 : Fin 4) = 0 ∧ win0_3.index t (1 : Fin 4) = 0 ∧ win0_3.index t (2 : Fin 4) = 0
    ∧ win0_3.index t (3 : Fin 4) = 0
    ∧ win0_4.index t (0 : Fin 3) = 0 ∧ win0_4.index t (1 : Fin 3) = 0 ∧ win0_4.index t (2 : Fin 3) = 0
    ∧ win0_5.index t (0 : Fin 1) = 0 ∧ win0_6.index t (0 : Fin 1) = 0 :=
  (by decide +kernel : ∀ t : Fin grid0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val + 4 ∧ win0_2.index t (1 : Fin 2) = 0
    ∧ win0_3.index t (0 : Fin 4) = 0 ∧ win0_3.index t (1 : Fin 4) = 0 ∧ win0_3.index t (2 : Fin 4) = 0
    ∧ win0_3.index t (3 : Fin 4) = 0
    ∧ win0_4.index t (0 : Fin 3) = 0 ∧ win0_4.index t (1 : Fin 3) = 0 ∧ win0_4.index t (2 : Fin 3) = 0
    ∧ win0_5.index t (0 : Fin 1) = 0 ∧ win0_6.index t (0 : Fin 1) = 0)

/-- The query block is the query. -/
theorem blk0 (t : Fin cfg0.N) (h : Fin 16) (d : Fin 128) :
    iblk m c 0 t (ix2 h d) = m ((c : Thread nD τ).loc main_arg1) (ix3 0 h d) := by
  have e : iblk m c 0 t (ix2 h d) = V m c main_v2 (ix2 h d) := by
    show ((cfg0.win 0).blk t).view.read (Elt Ideal) (V m c main_v2) _ = _
    generalize V m c main_v2 = X
    blk_ext [idx t]
  rw [e, V_v2]
  exact cast_q _ h d

/-- Grid point `t` holds the new keys `256 t … 256 t + 255`. -/
theorem blk1 (t : Fin cfg0.N) (ht : t.val < 4) (k : Fin 256) (h : Fin 16) (d : Fin 128) :
    iblk m c 1 t (ix2 ⟨16 * k.val + h.val, by omega⟩ d)
      = m ((c : Thread nD τ).loc main_arg0) (ix3 ⟨256 * t.val + k.val, by omega⟩ h d) := by
  have e : iblk m c 1 t (ix2 ⟨16 * k.val + h.val, by omega⟩ d)
      = V m c main_v0 (ix2 ⟨4096 * t.val + (16 * k.val + h.val), by omega⟩ d) := by
    show ((cfg0.win 1).blk t).view.read (Elt Ideal) (V m c main_v0) _ = _
    generalize V m c main_v0 = X
    blk_ext [idx t]
  rw [e, V_v0]
  exact cast_v _ _ _ h d _ _

/-- Grid point `t` holds the kept keys `1024 + 256 t … 1024 + 256 t + 255`. -/
theorem blk2 (t : Fin cfg0.N) (ht : t.val < 4) (k : Fin 256) (h : Fin 16) (d : Fin 128) :
    iblk m c 2 t (ix2 ⟨16 * k.val + h.val, by omega⟩ d)
      = m ((c : Thread nD τ).loc main_arg2) (ix3 ⟨1024 + 256 * t.val + k.val, by omega⟩ h d) := by
  have e : iblk m c 2 t (ix2 ⟨16 * k.val + h.val, by omega⟩ d)
      = V m c main_v1 (ix2 ⟨4096 * (t.val + 4) + (16 * k.val + h.val), by omega⟩ d) := by
    show ((cfg0.win 2).blk t).view.read (Elt Ideal) (V m c main_v1) _ = _
    generalize V m c main_v1 = X
    blk_ext [idx t]
  rw [e, V_v1]
  exact cast_r _ _ _ h d _ _

/-- The tree rows. -/
theorem blk3 (t : Fin cfg0.N) (j : Fin 13) (h : Fin 16) (k : Fin 8) (d : Fin 128) :
    iblk m c 3 t (ix4 j h k d) = m ((c : Thread nD τ).loc main_arg3) (ix5 j 0 h k d) := by
  have e : iblk m c 3 t (ix4 j h k d) = V m c main_v3 (ix4 j h k d) := by
    show ((cfg0.win 3).blk t).view.read (Elt Ideal) (V m c main_v3) _ = _
    generalize V m c main_v3 = X
    blk_ext [idx t]
  rw [e, V_v3]
  exact cast_t _ j h k d

/-- The per-depth matrices. -/
theorem blk4 (t : Fin cfg0.N) (i : Fin 15) (a b : Fin 128) :
    iblk m c 4 t (ix3 i a b) = m ((c : Thread nD τ).loc main_arg4) (ix3 i a b) := by
  blk_ext! [iblk, V, idx t]

/-- The depth words. -/
theorem blk6 (t : Fin cfg0.N) (j : Fin 13) :
    iblk m c 6 t (ix1 j) = m ((c : Thread nD τ).loc main_arg7) (ix1 j) := by
  blk_ext! [iblk, V, idx t]

/-- The scales block. -/
theorem blk5 (t : Fin cfg0.N) (i : Fin 15) :
    iblk m c 5 t (ix1 i) = scales (m ((c : Thread nD τ).loc main_arg5)) (ix1 i) := by
  have e : iblk m c 5 t (ix1 i) = V m c main_v10 (ix1 i) := by
    show ((cfg0.win 5).blk t).view.read (Elt Ideal) (V m c main_v10) _ = _
    generalize V m c main_v10 = X
    blk_ext [idx t]
  rw [e, V_v10]

end Cert.Blocks
end
-- ==== Proof.Accum.lean ====
module

public import proofs.«01_k».proof.Proof.KVal
public import proofs.«01_k».proof.Proof.KOut
public import proofs.«01_k».proof.Proof.Pay
public import proofs.«01_k».proof.Proof.Blocks

/-!
The four grid points together. Point `n` meets the keys whose number modulo 1024 lies in `256 n … 256 n + 255`: its new
keys and the kept keys behind them. After the last point the scratch arrays describe all 2048 keys.
-/

@[expose] public section

set_option maxRecDepth 16384
noncomputable section

namespace Cert.Accum

open Idealize.ShloMosaic Idealize.ShloMosaic.TcCoe Idealize.SL.Sem
open Cert.KernelIdeal Cert.KernelIdeal.Gen Cert.KVal

/-- The attended keys (which are also the values): the new ones, then the second half of the ring buffer. -/
def key (v : FVec Ideal S1024x16x128 .f32) (r : FVec Ideal S2048x16x128 .f32) (h : Fin 16) (k : Fin 2048) (d : Fin 128) : EReal :=
  if hk : k.val < 1024 then v (ix3 ⟨k.val, hk⟩ h d) else r (ix3 k h d)

/-- The scaled attention score of a key. -/
def lscore (v : FVec Ideal S1024x16x128 .f32) (r : FVec Ideal S2048x16x128 .f32) (q : FVec Ideal S1x16x128 .f32)
    (h : Fin 16) (k : Fin 2048) : EReal :=
  (∑ d : Fin 128, q (ix3 0 h d) * key v r h k d) * Pay.c128

/-- The keys met by the first `n` grid points. -/
def met (n : ℕ) : Finset (Fin 2048) := Finset.univ.filter fun k => k.val % 1024 < 256 * n

/-- Where a block of 256 keys stands, starting at key `b`. -/
def place (b : ℕ) (hb : b + 256 ≤ 2048) : Fin 256 ↪ Fin 2048 :=
  ⟨fun k => ⟨b + k.val, by omega⟩, fun x y h => Fin.ext (by have := congrArg Fin.val h; simp only at this; omega)⟩

/-- The keys of a block of 256 starting at key `b` are those from `b` to `b + 255`. -/
theorem mem_place (b : ℕ) (hb : b + 256 ≤ 2048) (x : Fin 2048) :
    x ∈ Finset.univ.map (place b hb) ↔ b ≤ x.val ∧ x.val < b + 256 := by
  simp only [Finset.mem_map, Finset.mem_univ, true_and]
  constructor
  · rintro ⟨k, rfl⟩
    exact ⟨Nat.le_add_right _ _, Nat.add_lt_add_left k.isLt _⟩
  · rintro ⟨h1, h2⟩
    exact ⟨⟨x.val - b, by omega⟩, Fin.ext (show b + (x.val - b) = x.val by omega)⟩

/-- No key is met before the first point. -/
theorem met_zero : met 0 = ∅ := by
  ext x; simp [met]

/-- Every key is met by the four points. -/
theorem met_four : met 4 = Finset.univ := by
  ext x; simp only [met, Finset.mem_filter, Finset.mem_univ, true_and, iff_true]; omega

/-- A point meets its two blocks. -/
theorem met_succ (n : ℕ) (hn : n < 4) : met (n + 1)
    = (met n ∪ Finset.univ.map (place (256 * n) (by omega))) ∪ Finset.univ.map (place (1024 + 256 * n) (by omega)) := by
  ext x
  simp only [Finset.mem_union, mem_place, met, Finset.mem_filter, Finset.mem_univ, true_and]
  omega

/-- One grid point carries the scratch arrays from the keys met so far to its own. -/
theorem point {v : FVec Ideal S1024x16x128 .f32} {r : FVec Ideal S2048x16x128 .f32} {q : FVec Ideal S1x16x128 .f32}
    (n : ℕ) (hn : n < 4) (x0 : Vec Ideal S16x128 .f32) (x1 x2 : Vec Ideal S4096x128 .f32)
    (e0 : ∀ h d, x0 (ix2 h d) = q (ix3 0 h d))
    (e1 : ∀ (k : Fin 256) (h : Fin 16) d, x1 (ix2 ⟨16 * k.val + h.val, by omega⟩ d) = v (ix3 ⟨256 * n + k.val, by omega⟩ h d))
    (e2 : ∀ (k : Fin 256) (h : Fin 16) d,
      x2 (ix2 ⟨16 * k.val + h.val, by omega⟩ d) = r (ix3 ⟨1024 + 256 * n + k.val, by omega⟩ h d))
    {m l a : Vec Ideal S16x128 .f32} (H : Pay.Holds (lscore v r q) (key v r) (met n) m l a) :
    Pay.Holds (lscore v r q) (key v r) (met (n + 1)) (gm x0 x2 (fm x0 x1 m)) (gl x0 x2 (fm x0 x1 m) (fl x0 x1 m l))
      (ga x0 x2 (fm x0 x1 m) (fa x0 x1 m a)) := by
  have v1 : ∀ (h : Fin 16) (k : Fin 256) (d : Fin 128),
      x1 (ix2 ⟨16 * k.val + h.val, by omega⟩ d) = key v r h (place (256 * n) (by omega) k) d := fun h k d => by
    rw [e1, key, dif_pos (show (place (256 * n) (by omega) k).val < 1024 by
      show 256 * n + k.val < 1024; omega)]
    rfl
  have v2 : ∀ (h : Fin 16) (k : Fin 256) (d : Fin 128),
      x2 (ix2 ⟨16 * k.val + h.val, by omega⟩ d) = key v r h (place (1024 + 256 * n) (by omega) k) d := fun h k d => by
    rw [e2, key, dif_neg (show ¬ (place (1024 + 256 * n) (by omega) k).val < 1024 by
      show ¬ 1024 + 256 * n + k.val < 1024; omega)]
    rfl
  rw [met_succ n hn, Pay.gm_eq, Pay.gl_eq, Pay.ga_eq]
  refine Pay.Holds.step (Pay.Holds.step H x0 x1 _ ?_ (fun h k => ?_) v1) x0 x2 _ ?_ (fun h k => ?_) v2
  · rw [Finset.disjoint_left]; intro x hx hy
    rw [mem_place] at hy
    simp only [met, Finset.mem_filter, Finset.mem_univ, true_and] at hx
    omega
  · simp only [Pay.score, lscore, e0, v1]
  · rw [Finset.disjoint_left]; intro x hx hy
    rw [mem_place] at hy
    simp only [Finset.mem_union, mem_place, met, Finset.mem_filter, Finset.mem_univ, true_and] at hx
    omega
  · simp only [Pay.score, lscore, e0, v2]

variable (m : (ℓ : Loc nD τ sig) → Buf (Elt Ideal) ℓ) (hH : Hyps m) (c : Dev nD)

/-- What the scratch arrays hold after grid point `n`. -/
abbrev At (n : ℕ) (x y z : Vec Ideal S16x128 .f32) : Prop :=
  Pay.Holds (lscore (m ((c : Thread nD τ).loc main_arg0)) (m ((c : Thread nD τ).loc main_arg2)) (m ((c : Thread nD τ).loc main_arg1)))
    (key (m ((c : Thread nD τ).loc main_arg0)) (m ((c : Thread nD τ).loc main_arg2))) (met n) x y z

/-- One grid point, its blocks read off the arguments. -/
theorem pointAt (t : Fin cfg0.N) (ht : t.val < 4) {x y z : Vec Ideal S16x128 .f32} (H : At m c t.val x y z) :
    At m c (t.val + 1) (gm (iblk m c 0 t) (iblk m c 2 t) (fm (iblk m c 0 t) (iblk m c 1 t) x))
      (gl (iblk m c 0 t) (iblk m c 2 t) (fm (iblk m c 0 t) (iblk m c 1 t) x) (fl (iblk m c 0 t) (iblk m c 1 t) x y))
      (ga (iblk m c 0 t) (iblk m c 2 t) (fm (iblk m c 0 t) (iblk m c 1 t) x) (fa (iblk m c 0 t) (iblk m c 1 t) x z)) :=
  point t.val ht (iblk m c 0 t) (iblk m c 1 t) (iblk m c 2 t) (Blocks.blk0 m c t) (Blocks.blk1 m c t ht)
    (Blocks.blk2 m c t ht) H

/-- After the first point. -/
theorem first (t : Fin cfg0.N) (h : t.val = 0) :
    At m c (t.val + 1) (outsAt0 m hH c t.val t.isLt).2.1 (outsAt0 m hH c t.val t.isLt).2.2.1
      (outsAt0 m hH c t.val t.isLt).2.2.2 := by
  rw [outsAt0_A m hH c t (by omega) (by omega)]
  dsimp only
  rw [sout_A_0, sout_A_1, sout_A_2]
  refine pointAt m c t (by omega) ?_
  rw [At, h, met_zero]
  exact Pay.Holds.init _ _

/-- After a middle point. -/
theorem middle (t : Fin cfg0.N) (h : 0 < t.val) (h' : t.val < 3)
    (ih : At m c t.val (outsAt0 m hH c (t.val - 1) (Nat.lt_of_le_of_lt (Nat.sub_le _ _) t.isLt)).2.1
      (outsAt0 m hH c (t.val - 1) (Nat.lt_of_le_of_lt (Nat.sub_le _ _) t.isLt)).2.2.1
      (outsAt0 m hH c (t.val - 1) (Nat.lt_of_le_of_lt (Nat.sub_le _ _) t.isLt)).2.2.2) :
    At m c (t.val + 1) (outsAt0 m hH c t.val t.isLt).2.1 (outsAt0 m hH c t.val t.isLt).2.2.1
      (outsAt0 m hH c t.val t.isLt).2.2.2 := by
  rw [outsAt0_B m hH c t (by omega) (by omega)]
  dsimp only
  rw [sout_B_0, sout_B_1, sout_B_2]
  exact pointAt m c t (by omega) ih

/-- What the scratch arrays hold before the last point. -/
theorem before_last : At m c 3 (outsAt0 m hH c 2 t0_2.isLt).2.1 (outsAt0 m hH c 2 t0_2.isLt).2.2.1
    (outsAt0 m hH c 2 t0_2.isLt).2.2.2 :=
  middle m hH c t0_2 (by decide) (by decide) (middle m hH c t0_1 (by decide) (by decide) (first m hH c t0_0 rfl))

/-- The last point stores the finished sums over all keys. -/
theorem last : ∃ x y z, At m c 4 x y z ∧ (outsAt0 m hH c t0_3.val t0_3.isLt).1
    = finish z y (fun j => nodeW (k0_pay30 (iblk m c 0 t0_3)) (wdOf (iblk m c 4 t0_3) (iblk m c 6 t0_3 (ix1 j)))
        (scOf (iblk m c 5 t0_3) (iblk m c 6 t0_3 (ix1 j))) (nfOf (iblk m c 3 t0_3) j)) := by
  refine ⟨_, _, _, pointAt m c t0_3 (by decide) (before_last m hH c), ?_⟩
  rw [outsAt0_C m hH c t0_3 (by decide) (by decide)]
  dsimp only
  rw [out_C]
  rfl

end Cert.Accum
end
-- ==== Proof.Node.lean ====
module

public import proofs.«01_k».proof.Proof.KVal
public import proofs.«01_k».proof.Proof.Flash
public import proofs.«01_k».proof.Proof.Consts
public import Idealize.ShloMosaic.Lib.Pointwise

/-!
A tree node's share and the stored result at an index.
-/

@[expose] public section

set_option maxRecDepth 16384
noncomputable section

namespace Cert.Node

open Idealize.ShloMosaic
open Cert.KernelIdeal Cert.KernelIdeal.Gen Cert.KVal

/-- The softmax of the scores `s`, taken against the largest one, and the values `v` weighted by it. -/
def soft {n : ℕ} (s v : Fin n → EReal) : EReal :=
  ∑ k, Ideal.div (Ideal.exp (s k - Finset.univ.sup s)) (∑ j, Ideal.exp (s j - Finset.univ.sup s)) * v k

/-- A node's score of its row `f`: the query plus its image under `w`, times the row, scaled by `sc`. -/
def nscore (q : Fin 128 → EReal) (w : Fin 128 → Fin 128 → EReal) (sc : EReal) (f : Fin 8 → Fin 128 → EReal)
    (k : Fin 8) : EReal :=
  (∑ e, (q e + ∑ d, q d * w e d) * f k e) * sc

/-- A node's share at an index. -/
theorem nodeW_apply (q : FVec Ideal S16x128 .f32) (wd : Vec Ideal S1x128x128 .f32) (sc : Elt Ideal .f32)
    (nf : Vec Ideal S1x16x8x128 .f32) (h : Fin 16) (d : Fin 128) :
    nodeW q wd sc nf (ix2 h d)
      = soft (nscore (fun e => q (ix2 h e)) (fun e d => wd (ix3 0 e d)) sc (fun k e => nf (ix4 0 h k e)))
          (fun k => nf (ix4 0 h k d)) := by
  unfold nodeW
  pointwise
  simp only [Consts.negInf, Flash.fold_max_bot]
  rfl

/-- The stored result at an index. -/
theorem finish_apply (a l : Vec Ideal S16x128 .f32) (n : Fin 13 → FVec Ideal S16x128 .f32) (h : Fin 16) (d : Fin 128) :
    finish a l n (ix2 h d)
      = Ideal.div (a (ix2 h d)) (l (ix2 h 0)) + (∑ j, n j (ix2 h d)) * ((1 / 13 : ℝ) : EReal) := by
  have hi : (Named.named κ "inv13" 0x3D9D89D9#32 : Ideal .f32) = ((1 / 13 : ℝ) : EReal) :=
    IdealRules.named_const.ideal_named_scalar _ _ _ _ rfl
  unfold finish col
  pointwise
  rw [hi]
  simp only [Fin.sum_univ_succ, Fin.sum_univ_zero]
  simp [add_assoc]

end Cert.Node
end
-- ==== Proof.KRes.lean ====
module

public import proofs.«01_k».proof.Proof.Accum
public import proofs.«01_k».proof.Proof.Node

/-!
What the kernel stores, at an index, read off the arguments.
-/

@[expose] public section

set_option maxRecDepth 16384
noncomputable section

namespace Cert.KRes

open Idealize.ShloMosaic Idealize.ShloMosaic.TcCoe Idealize.SL.Sem
open Cert.KernelIdeal Cert.KernelIdeal.Gen Cert.KVal Cert.Node

/-- The result at head `h` and lane `d`: the attention over all keys, plus a thirteenth of the nodes' shares. -/
def result (v : FVec Ideal S1024x16x128 .f32) (q : FVec Ideal S1x16x128 .f32) (r : FVec Ideal S2048x16x128 .f32)
    (nf : FVec Ideal S13x1x16x8x128 .f32) (w : FVec Ideal S15x128x128 .f32) (tmp : FVec Ideal S15 .f32)
    (dep : Vec Ideal S13 .i32) (h : Fin 16) (d : Fin 128) : EReal :=
  soft (Accum.lscore v r q h) (fun k => Accum.key v r h k d)
    + (∑ j : Fin 13, soft (nscore (fun e => q (ix3 0 h e))
        (fun a b => w (ix3 ⟨(dep (ix1 j)).toNat % 15, Nat.mod_lt _ (by norm_num)⟩ a b))
        (Blocks.scales tmp (ix1 ⟨(dep (ix1 j)).toNat % 15, Nat.mod_lt _ (by norm_num)⟩))
        (fun k e => nf (ix5 j 0 h k e))) (fun k => nf (ix5 j 0 h k d))) * ((1 / 13 : ℝ) : EReal)

variable (m : (ℓ : Loc nD τ sig) → Buf (Elt Ideal) ℓ) (hH : Hyps m) (c : Dev nD)

/-- The query reaches the nodes as it is. -/
theorem pay30_apply (x : Vec Ideal S16x128 .f32) (h : Fin 16) (e : Fin 128) : k0_pay30 x (ix2 h e) = x (ix2 h e) := by
  unfold k0_pay30
  pointwise

/-- What the last grid point stores. -/
theorem stored (hs : ∀ h k, Accum.lscore (m ((c : Thread nD τ).loc main_arg0)) (m ((c : Thread nD τ).loc main_arg2))
        (m ((c : Thread nD τ).loc main_arg1)) h k ≠ ⊤
      ∧ Accum.lscore (m ((c : Thread nD τ).loc main_arg0)) (m ((c : Thread nD τ).loc main_arg2))
        (m ((c : Thread nD τ).loc main_arg1)) h k ≠ ⊥) (h : Fin 16) (d : Fin 128) :
    (outsAt0 m hH c t0_3.val t0_3.isLt).1 (ix2 h d)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg7)) h d := by
  obtain ⟨x, y, z, H, e⟩ := Accum.last m hH c
  rw [e, finish_apply, H.a, H.l, Accum.met_four, Flash.ws_div _ _ Finset.univ_nonempty (hs h)]
  refine congrArg₂ (· + ·) rfl (congrArg (· * ((1 / 13 : ℝ) : EReal)) (Finset.sum_congr rfl fun j _ => ?_))
  rw [nodeW_apply]
  simp only [pay30_apply, wdOf, scOf, nfOf, Blocks.blk0, Blocks.blk6]
  congr 1
  · funext k
    congr 1
    · funext a b
      exact Blocks.blk4 m c t0_3 _ a b
    · exact Blocks.blk5 m c t0_3 _
    · funext k e
      exact Blocks.blk3 m c t0_3 j h k e
  · funext k
    exact Blocks.blk3 m c t0_3 j h k d

/-- The result array after the last grid point. -/
theorem arr : (dats m hH 0 c).arrAt 7 cfg0.N = (outsAt0 m hH c t0_3.val t0_3.isLt).1 := by
  refine (dats m hH 0 c).arrAt_eq_of_after_last 7 t0_3 (by decide +kernel) _ fun j => ?_
  blk_simp [after0_7]

end Cert.KRes
end
-- ==== Proof.RefVal.lean ====
module

public import proofs.«01_k».proof.Proof.RefIdx
public import proofs.«01_k».proof.Proof.KRes

/-!
The reference's result at an index is the kernel's.
-/

@[expose] public section

set_option maxRecDepth 16384
noncomputable section

namespace Cert.RefVal

open Idealize.ShloMosaic
open Cert.ReferenceIdeal Cert.ReferenceIdeal.Gen Cert.ReferenceIdeal.Read

variable (x0 : FVec Ideal S1024x16x128 .f32) (x1 : FVec Ideal S1x16x128 .f32) (x2 : FVec Ideal S2048x16x128 .f32)
  (x3 : FVec Ideal S13x1x16x8x128 .f32) (x4 : FVec Ideal S15x128x128 .f32) (x5 : FVec Ideal S15 .f32)
  (x6 : (⟨S1024, .i32⟩ : BufTy).Contents (Elt Ideal)) (x7 : (⟨S13, .i32⟩ : BufTy).Contents (Elt Ideal))

section Local
variable (h6 : ∀ y, x6 y = BitVec.ofNat 32 (y 0).val)
include h6

/-- The keys. -/
theorem v6 (k : Fin 2048) (h : Fin 16) (d : Fin 128) :
    val_main_v6 (F := Ideal) x0 x2 x6 (ix3 k h d) = Accum.key x0 x2 h k d := RefIdx.v6 x6 h6 x0 x2 k h d

/-- The scaled scores. -/
theorem v10 (h : Fin 16) (k : Fin 2048) :
    val_main_v10 (F := Ideal) x0 x1 x2 x6 (ix2 h k) = Accum.lscore x0 x2 x1 h k := by
  have e := v6 x0 x2 x6 h6
  unfold val_main_v10 val_main_v8 val_main_v9 val_main_v7 val_main_cst
  generalize val_main_v6 (F := Ideal) x0 x2 x6 = y at e ⊢
  pointwise
  simp only [e]
  rfl

/-- The largest score. -/
theorem v13 (h : Fin 16) : val_main_v13 (F := Ideal) x0 x1 x2 x6 (ix1 h) = Finset.univ.sup (Accum.lscore x0 x2 x1 h) := by
  have e := v10 x0 x1 x2 x6 h6 h
  unfold val_main_v13 val_main_v11 val_main_v12 val_main_cst_1 val_main_cst_2
  generalize val_main_v10 (F := Ideal) x0 x1 x2 x6 = y at e ⊢
  pointwise
  simp only [e, Consts.negInf, Flash.fold_max_bot]
  simp
  try rfl

/-- The exponentials. -/
theorem v17 (h : Fin 16) (k : Fin 2048) : val_main_v17 (F := Ideal) x0 x1 x2 x6 (ix2 h k)
    = Ideal.exp (Accum.lscore x0 x2 x1 h k - Finset.univ.sup (Accum.lscore x0 x2 x1 h)) := by
  have e := v10 x0 x1 x2 x6 h6 h
  have e' := v13 x0 x1 x2 x6 h6 h
  unfold val_main_v17 val_main_v16 val_main_v15 val_main_v14
  generalize val_main_v10 (F := Ideal) x0 x1 x2 x6 = y at e ⊢
  generalize val_main_v13 (F := Ideal) x0 x1 x2 x6 = z at e' ⊢
  pointwise
  rw [e, e']

/-- The attention. -/
theorem v22 (h : Fin 16) (d : Fin 128) : val_main_v22 (F := Ideal) x0 x1 x2 x6 (ix2 h d)
    = Node.soft (Accum.lscore x0 x2 x1 h) (fun k => Accum.key x0 x2 h k d) := by
  have e := v17 x0 x1 x2 x6 h6 h
  have e' := v6 x0 x2 x6 h6
  unfold val_main_v22 val_main_v21 val_main_v20 val_main_v19 val_main_v18 val_main_cst_3
  generalize val_main_v17 (F := Ideal) x0 x1 x2 x6 = y at e ⊢
  generalize val_main_v6 (F := Ideal) x0 x2 x6 = z at e' ⊢
  pointwise
  simp only [e, e']
  rfl

end Local

section Tree
variable (h7 : ∀ j : Fin 13, (x7 (ix1 j)).toNat < 15)
include h7

/-- The depth a word names. -/
abbrev dep (j : Fin 13) : Fin 15 := ⟨(x7 (ix1 j)).toNat % 15, Nat.mod_lt _ (by norm_num)⟩

/-- The shifted queries. -/
theorem v31 (j : Fin 13) (h : Fin 16) (e : Fin 128) : val_main_v31 (F := Ideal) x1 x4 x7 (ix3 j h e)
    = x1 (ix3 0 h e) + ∑ d, x1 (ix3 0 h d) * x4 (ix3 (dep x7 j) e d) := by
  have w := RefIdx.v24 x7 h7 x4
  unfold val_main_v31 val_main_v30 val_main_v29 val_main_v28 val_main_v27 val_main_v26 val_main_v25
  generalize val_main_v24 (F := Ideal) x4 x7 = y at w ⊢
  pointwise
  simp only [w, mul_comm]

/-- The scales. -/
theorem v39 (j : Fin 13) : val_main_v39 (F := Ideal) x5 x7 (ix1 j) = Blocks.scales x5 (ix1 (dep x7 j)) := by
  have w := RefIdx.v32 x7 h7 x5 j
  unfold val_main_v39 val_main_v38 val_main_v37 val_main_v36 val_main_v35 val_main_v34 val_main_v33 val_main_call2_v11
    val_main_call2_v10 val_main_call2_v9 val_main_call2_v8 val_main_call2_v7 val_main_call2_v6 val_main_call2_v5
    val_main_call2_v4 val_main_call2_v3 val_main_call2_v2 val_main_call2_v1 val_main_call2_v0 val_main_call2_cst
    val_main_cst_4 val_main_cst_5 val_main_cst_6 Blocks.scales
  generalize val_main_v32 (F := Ideal) x5 x7 = y at w ⊢
  pointwise
  rw [w]

/-- The node scores. -/
abbrev ns (j : Fin 13) (h : Fin 16) : Fin 8 → EReal :=
  Node.nscore (fun e => x1 (ix3 0 h e)) (fun a b => x4 (ix3 (dep x7 j) a b)) (Blocks.scales x5 (ix1 (dep x7 j)))
    (fun k e => x3 (ix5 j 0 h k e))

/-- The scaled node scores. -/
theorem v44 (j : Fin 13) (h : Fin 16) (k : Fin 8) : val_main_v44 (F := Ideal) x1 x3 x4 x5 x7 (ix3 j h k)
    = ns x1 x3 x4 x5 x7 j h k := by
  have e := v31 x1 x4 x7 h7
  have e' := v39 x5 x7 h7
  unfold val_main_v44 val_main_v43 val_main_v42 val_main_v41 val_main_v40
  generalize val_main_v31 (F := Ideal) x1 x4 x7 = y at e ⊢
  generalize val_main_v39 (F := Ideal) x5 x7 = z at e' ⊢
  pointwise
  simp only [e, e']
  rfl

/-- The largest node score. -/
theorem v47 (j : Fin 13) (h : Fin 16) : val_main_v47 (F := Ideal) x1 x3 x4 x5 x7 (ix2 j h)
    = Finset.univ.sup (ns x1 x3 x4 x5 x7 j h) := by
  have e := v44 x1 x3 x4 x5 x7 h7 j h
  unfold val_main_v47 val_main_v46 val_main_v45 val_main_cst_7 val_main_cst_8
  generalize val_main_v44 (F := Ideal) x1 x3 x4 x5 x7 = y at e ⊢
  pointwise
  simp only [e, Consts.negInf, Flash.fold_max_bot]
  simp
  try rfl

/-- The node exponentials. -/
theorem v51 (j : Fin 13) (h : Fin 16) (k : Fin 8) : val_main_v51 (F := Ideal) x1 x3 x4 x5 x7 (ix3 j h k)
    = Ideal.exp (ns x1 x3 x4 x5 x7 j h k - Finset.univ.sup (ns x1 x3 x4 x5 x7 j h)) := by
  have e := v44 x1 x3 x4 x5 x7 h7 j h
  have e' := v47 x1 x3 x4 x5 x7 h7 j h
  unfold val_main_v51 val_main_v50 val_main_v49 val_main_v48
  generalize val_main_v44 (F := Ideal) x1 x3 x4 x5 x7 = y at e ⊢
  generalize val_main_v47 (F := Ideal) x1 x3 x4 x5 x7 = z at e' ⊢
  pointwise
  rw [e, e']

/-- A node's share. -/
theorem v56 (j : Fin 13) (h : Fin 16) (d : Fin 128) : val_main_v56 (F := Ideal) x1 x3 x4 x5 x7 (ix3 j h d)
    = Node.soft (ns x1 x3 x4 x5 x7 j h) (fun k => x3 (ix5 j 0 h k d)) := by
  have e := v51 x1 x3 x4 x5 x7 h7 j h
  unfold val_main_v56 val_main_v55 val_main_v54 val_main_v53 val_main_v52 val_main_v40 val_main_cst_9
  generalize val_main_v51 (F := Ideal) x1 x3 x4 x5 x7 = y at e ⊢
  pointwise
  simp only [e]
  rfl

/-- The mean of the shares. -/
theorem v59 (h : Fin 16) (d : Fin 128) : val_main_v59 (F := Ideal) x1 x3 x4 x5 x7 (ix2 h d)
    = (∑ j, Node.soft (ns x1 x3 x4 x5 x7 j h) (fun k => x3 (ix5 j 0 h k d))) * ((1 / 13 : ℝ) : EReal) := by
  have e := fun j => v56 x1 x3 x4 x5 x7 h7 j h d
  unfold val_main_v59 val_main_v58 val_main_v57 val_main_cst_10 val_main_cst_11
  generalize val_main_v56 (F := Ideal) x1 x3 x4 x5 x7 = y at e ⊢
  pointwise
  simp only [e, Consts.thirteen]
  exact Ideal.div_coe (by norm_num) _

end Tree

/-- The reference's result. -/
theorem v61 (h6 : ∀ y, x6 y = BitVec.ofNat 32 (y 0).val) (h7 : ∀ j : Fin 13, (x7 (ix1 j)).toNat < 15) (z : Fin 1)
    (h : Fin 16) (d : Fin 128) :
    val_main_v61 (F := Ideal) x0 x1 x2 x3 x4 x5 x6 x7 (ix3 z h d) = KRes.result x0 x1 x2 x3 x4 x5 x7 h d := by
  have e := v22 x0 x1 x2 x6 h6 h d
  have e' := v59 x1 x3 x4 x5 x7 h7 h d
  unfold val_main_v61 val_main_v23 val_main_v60
  generalize val_main_v22 (F := Ideal) x0 x1 x2 x6 = y at e ⊢
  generalize val_main_v59 (F := Ideal) x1 x3 x4 x5 x7 = w at e' ⊢
  pointwise
  rw [e, e']
  rfl

end Cert.RefVal
end
-- ==== Proof.Value.lean ====
module

public import proofs.«01_k».proof.Defs
public import proofs.«01_k».proof.Proof.Frames
public import proofs.«01_k».proof.Proof.RefVal
public import Idealize.ShloMosaic.Lib.Claim

/-!
Kernel and reference end with the same result, element by element.
-/

@[expose] public section

set_option maxRecDepth 16384
noncomputable section

namespace Cert.Value

open Idealize.ShloMosaic Idealize.ShloMosaic.TcCoe Idealize.SL.Sem
open Cert.KernelIdeal Cert.KernelIdeal.Gen

/-- A finite extended real is a real. -/
theorem real_of (x : EReal) (h : x ≠ ⊤ ∧ x ≠ ⊥) : ∃ r : ℝ, x = r := ⟨x.toReal, (EReal.coe_toReal h.1 h.2).symm⟩

/-- The coercion of a real sum is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- With finite queries and keys every score is finite. -/
theorem finite (v : FVec Ideal S1024x16x128 .f32) (r : FVec Ideal S2048x16x128 .f32) (q : FVec Ideal S1x16x128 .f32)
    (hq : ∀ y, (q y : EReal) ≠ ⊤ ∧ (q y : EReal) ≠ ⊥) (hv : ∀ y, (v y : EReal) ≠ ⊤ ∧ (v y : EReal) ≠ ⊥)
    (hr : ∀ y : S2048x16x128.Idx, 1024 ≤ (y 0).val → (r y : EReal) ≠ ⊤ ∧ (r y : EReal) ≠ ⊥) (h : Fin 16) (k : Fin 2048) :
    Accum.lscore v r q h k ≠ ⊤ ∧ Accum.lscore v r q h k ≠ ⊥ := by
  have hk : ∀ d, ∃ x : ℝ, Accum.key v r h k d = x := fun d => by
    unfold Accum.key
    split
    · exact real_of _ (hv _)
    · next hk => exact real_of _ (hr _ (by show 1024 ≤ k.val; omega))
  choose x hx using hk
  choose y hy using fun d : Fin 128 => real_of _ (hq (ix3 0 h d))
  obtain ⟨z, hz⟩ := Consts.scale_real
  have e : Accum.lscore v r q h k = (((∑ d, y d * x d) * z : ℝ) : EReal) := by
    unfold Accum.lscore Pay.c128
    rw [hz, EReal.coe_mul, coe_sum]
    congr 1
    exact Finset.sum_congr rfl fun d _ => by rw [hx, hy, EReal.coe_mul]
  rw [e]
  exact ⟨EReal.coe_ne_top _, EReal.coe_ne_bot _⟩

/-- The kernel's result array, with its leading axis. -/
theorem cast_out (x : FVec Ideal S16x128 .f32) (z : Fin 1) (h : Fin 16) (d : Fin 128) :
    shapeCast S1x16x128 x shapeCasts_S16x128_S1x16x128 (ix3 z h d) = x (ix2 h d) := by
  pointwise

/-- A result that agrees with the kernel's output array element by element is that array with its leading axis. -/
theorem out_eq (x : FVec Ideal S1x16x128 .f32) (y : FVec Ideal S16x128 .f32) (f : Fin 16 → Fin 128 → EReal)
    (hx : ∀ z h d, x (ix3 z h d) = f h d) (hy : ∀ h d, y (ix2 h d) = f h d) :
    x = shapeCast S1x16x128 y shapeCasts_S16x128_S1x16x128 := by
  funext i
  rw [eq_ix3 i]
  exact (hx _ _ _).trans ((hy _ _).symm.trans (cast_out y _ _ _).symm)

/-- After the last host line the result buffer holds the region's output array, reshaped. -/
theorem tail_out (m : (ℓ : Loc nD τ sig) → Buf (Elt Ideal) ℓ) (hH : Hyps m) (c : Dev nD) :
    Pipeline.afterTail₀ cfgs (dats m hH) 0 (V0 m) [hostOps1] c main_v12
      = shapeCast S1x16x128 (outsAt0 m hH c t0_3.val t0_3.isLt).1 shapeCasts_S16x128_S1x16x128 := by
  have e : Pipeline.afterTail₀ cfgs (dats m hH) 0 (V0 m) [hostOps1] c main_v12
      = shapeCast S1x16x128 (Pipeline.withArrays (cfgs 0).spec c (V0 m c) (fun w => (dats m hH 0 c).arrAt w (cfgs 0).N)
          (Proc.devRef .tc main_v11)) shapeCasts_S16x128_S1x16x128 := by
    show StableHlo.after (List.flatten [hostOps1]) _ (Proc.devRef .tc main_v12) = _
    simp only [hostOps1, List.flatten_cons, List.flatten_nil, List.append_nil]
    after_results
    rfl
  rw [e]
  congr 1
  exact (Pipeline.withArrays_arr spec0 (by decide) c (V0 m c) (fun w => (dats m hH 0 c).arrAt w (cfgs 0).N) 7).trans (KRes.arr m hH c)

/-- A run of the kernel: its result, and its arguments unchanged. -/
theorem run (m : (ℓ : Loc nD τ sig) → Buf (Elt Ideal) ℓ) (g : Dev nD → PrngReg) (hH : Hyps m) :
    θ_run (defs (F := Ideal)) (onTc (τ := τ) (main (F := Ideal))) ⟨m, fun _ => 0, g⟩ (fun r => ∀ c : Dev nD,
      r.2.mem ((c.tc : Thread nD τ).loc main_v12)
        = shapeCast S1x16x128 (outsAt0 m hH c t0_3.val t0_3.isLt).1 shapeCasts_S16x128_S1x16x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun _ h c => ⟨((h.1 c).2 main_v12 (by decide)).trans (tail_out m hH c), h.2 c⟩)
    (θ_run_and (run_main m g hH) (unchanged m g hH))

/-- The value claim. -/
theorem algebraic : Cert.algebraic_KernelIdeal_ReferenceIdeal_pre_drawn (hKernelIdeal := Cert.KernelIdeal.Gen.facts)
    (hReferenceIdeal := Cert.ReferenceIdeal.Gen.facts) (hPre_drawn := Cert.Pre_drawn.Gen.facts) := by
  pair_intro
  · exact run m g (Cert.Frames.hyps_drawn m hpre)
  · run_from (Cert.ReferenceIdeal.Value.run (F := Ideal) m' g')
    obtain ⟨h7, h6, hq, hv, hr⟩ := Cert.Drawn.parts _ _ _ _ _ _ _ _ _ (congrFun (hpre c) (fun a => a.elim0))
    obtain ⟨a0, a1, a2, a3, a4, a5, a6, a7⟩ := hagree c
    rw [Cert.ReferenceIdeal.Read.val_main_v61_eq, a0, a1, a2, a3, a4, a5, a6, a7]
    exact out_eq _ _ _ (fun z h d => Cert.RefVal.v61 _ _ _ _ _ _ _ _ h6 (fun j => h7 (ix1 j)) z h d)
      (fun h d => KRes.stored m _ c (finite _ _ _ hq hv hr) h d)

end Cert.Value
end
-- ==== Proof.lean ====
/- The proof of the certificate's claim: the programs' side conditions, the frames, the named constants and the value claim
   in one term. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.Pre_depths_in_range
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_depths_in_range.Gen.facts, Cert.Pre_drawn.Gen.facts, ⟨Cert.Frames.kernel, Cert.Frames.kernelIdeal, Cert.Frames.kernelIdeal_drawn, Cert.Frames.reference,
  Cert.Frames.reference_drawn, Cert.Frames.preserves, Cert.Value.algebraic⟩⟩

end Cert.Proof

end
